-- ==== Defs.lean ====
def Pre_Kernel [hPre_tab_ok : Cert.Pre_tab_ok.Facts] (m : (ℓ : Loc Cert.Kernel.nD Cert.Kernel.τ Cert.Kernel.sig) → Buf (Elt Bits) ℓ) : Prop :=
  ∀ c : Dev Cert.Kernel.nD,
    (Cert.Pre_tab_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_tab_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.1 = (fun _ => 1#1)
    ∧ (Cert.Pre_tab_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2.2 = (fun _ => 1#1)

def Pre_KernelIdeal [hPre_tab_ok : Cert.Pre_tab_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tab_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_tab_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_tab_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal [hPre_tab_ok : Cert.Pre_tab_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tab_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_tab_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_tab_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] [hPre_tab_ok : Cert.Pre_tab_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tab_ok : Cert.Pre_tab_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_tab_ok : Cert.Pre_tab_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tab_ok : Cert.Pre_tab_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_tab_ok : Cert.Pre_tab_ok.Facts),
    quiescent_Kernel (hKernel := hKernel) (hPre_tab_ok := hPre_tab_ok)
    ∧ quiescent_KernelIdeal (hKernelIdeal := hKernelIdeal) (hPre_tab_ok := hPre_tab_ok)
    ∧ quiescent_ReferenceIdeal (hReferenceIdeal := hReferenceIdeal) (hPre_tab_ok := hPre_tab_ok)
    ∧ preserves_Kernel_KernelIdeal
    ∧ algebraic_KernelIdeal_ReferenceIdeal (hKernelIdeal := hKernelIdeal) (hReferenceIdeal := hReferenceIdeal) (hPre_tab_ok := hPre_tab_ok)
-- ==== Pre_tab_ok.lean ====
abbrev S5x22 : Shape := ⟨2, ![5, 22]⟩
abbrev S2048x3584 : Shape := ⟨2, ![2048, 3584]⟩
abbrev S3584x18944 : Shape := ⟨2, ![3584, 18944]⟩
abbrev S18944 : Shape := ⟨1, ![18944]⟩
abbrev S22x128x256 : Shape := ⟨3, ![22, 128, 256]⟩
abbrev S7x2x148x128 : Shape := ⟨4, ![7, 2, 148, 128]⟩
abbrev S7x2x18944 : Shape := ⟨3, ![7, 2, 18944]⟩
abbrev S7x32x2368x3 : Shape := ⟨4, ![7, 32, 2368, 3]⟩
abbrev S7x222x4736 : Shape := ⟨3, ![7, 222, 4736]⟩
abbrev S1x22 : Shape := ⟨2, ![1, 22]⟩
abbrev S22 : Shape := ⟨1, ![22]⟩
abbrev S_ : Shape := ⟨0, ![]⟩
abbrev S22x1 : Shape := ⟨2, ![22, 1]⟩
abbrev S22x22 : Shape := ⟨2, ![22, 22]⟩
abbrev S16 : Shape := ⟨1, ![16]⟩
abbrev S16x1 : Shape := ⟨2, ![16, 1]⟩
abbrev S16x22 : Shape := ⟨2, ![16, 22]⟩

class Facts : Prop where
  slices_S5x22_S1x22_0_0 : S5x22.Slices ![0, 0] S1x22
  shapeCasts_S1x22_S22 : S1x22.ShapeCasts S22
  slices_S5x22_S1x22_1_0 : S5x22.Slices ![1, 0] S1x22
  slices_S5x22_S1x22_2_0 : S5x22.Slices ![2, 0] S1x22
  bcast_S_S22 : S_.BroadcastsInDim S22 (![] : Fin 0 → Fin S22.rank)
  bcast_S22_S22x1_0 : S22.BroadcastsInDim S22x1 (![0] : Fin 1 → Fin S22x1.rank)
  bcast_S22_S1x22_1 : S22.BroadcastsInDim S1x22 (![1] : Fin 1 → Fin S1x22.rank)
  bcast_S22x1_S22x22_0_1 : S22x1.BroadcastsInDim S22x22 (![0, 1] : Fin 2 → Fin S22x22.rank)
  bcast_S1x22_S22x22_0_1 : S1x22.BroadcastsInDim S22x22 (![0, 1] : Fin 2 → Fin S22x22.rank)
  bcast_S_S1x22 : S_.BroadcastsInDim S1x22 (![] : Fin 0 → Fin S1x22.rank)
  bcast_S16_S16x1_0 : S16.BroadcastsInDim S16x1 (![0] : Fin 1 → Fin S16x1.rank)
  bcast_S1x22_S16x22_0_1 : S1x22.BroadcastsInDim S16x22 (![0, 1] : Fin 2 → Fin S16x22.rank)
  bcast_S16x1_S16x22_0_1 : S16x1.BroadcastsInDim S16x22 (![0, 1] : Fin 2 → Fin S16x22.rank)
  reducesTo_S16x22_S16_d1 : S16x22.ReducesTo [1] S16
  h_S_ : 0 < S_.numel

variable [Facts]

def fn_part2 {F : FTy → Type} [FloatOps F] (main_v17 : IVec S22 1) (main_v34 : IVec S22x22 1) (main_v40 : IVec S16x22 1) (main_v41 : IVec S1x22 32) (main_c_4 : IVec S_ 32) : IVec S22 1 × IVec S22x22 1 × IVec S16 1 :=
  let main_v42 : IVec S1x22 32 := broadcastInDim S1x22 ![] bcast_S_S1x22 main_c_4
  let main_v43 : IVec S1x22 1 := cmpi .eq main_v41 main_v42
  let main_v44 : IVec S16x22 1 := broadcastInDim S16x22 ![0, 1] bcast_S1x22_S16x22_0_1 main_v43
  let main_v45 : IVec S16x22 1 := andi main_v40 main_v44
  let main_c_5 : IVec S_ 1 := constantI S_ 1 0#1
  let main_v46 : IVec S16 1 := (fun x v => Host.reduce IntOp.ori x v reducesTo_S16x22_S16_d1 h_S_) main_v45 main_c_5
  (main_v17, main_v34, main_v46)

def fn_part1 {F : FTy → Type} [FloatOps F] (main_v1 : IVec S22 32) (main_v5 : IVec S22 32) (main_v17 : IVec S22 1) (main_v18 : IVec S22x1 32) (main_v19 : IVec S1x22 32) : IVec S22 1 × IVec S22x22 1 × IVec S16 1 :=
  let main_v20 : IVec S22x22 32 := broadcastInDim S22x22 ![0, 1] bcast_S22x1_S22x22_0_1 main_v18
  let main_v21 : IVec S22x22 32 := broadcastInDim S22x22 ![0, 1] bcast_S1x22_S22x22_0_1 main_v19
  let main_v22 : IVec S22x22 1 := cmpi .slt main_v20 main_v21
  let main_v23 : IVec S22x1 32 := broadcastInDim S22x1 ![0] bcast_S22_S22x1_0 main_v1
  let main_v24 : IVec S1x22 32 := broadcastInDim S1x22 ![1] bcast_S22_S1x22_1 main_v1
  let main_v25 : IVec S22x22 32 := broadcastInDim S22x22 ![0, 1] bcast_S22x1_S22x22_0_1 main_v23
  let main_v26 : IVec S22x22 32 := broadcastInDim S22x22 ![0, 1] bcast_S1x22_S22x22_0_1 main_v24
  let main_v27 : IVec S22x22 1 := cmpi .eq main_v25 main_v26
  let main_v28 : IVec S22x22 1 := andi main_v22 main_v27
  let main_v29 : IVec S1x22 32 := broadcastInDim S1x22 ![1] bcast_S22_S1x22_1 main_v5
  let main_c_3 : IVec S_ 32 := constantI S_ 32 1#32
  let main_v30 : IVec S1x22 32 := broadcastInDim S1x22 ![] bcast_S_S1x22 main_c_3
  let main_v31 : IVec S1x22 1 := cmpi .eq main_v29 main_v30
  let main_v32 : IVec S22x22 1 := broadcastInDim S22x22 ![0, 1] bcast_S1x22_S22x22_0_1 main_v31
  let main_v33 : IVec S22x22 1 := andi main_v28 main_v32
  let main_v34 : IVec S22x22 1 := noti main_v33
  let main_v35 : IVec S1x22 32 := broadcastInDim S1x22 ![1] bcast_S22_S1x22_1 main_v1
  let main_v36 : IVec S16 32 := iotaInDim S16 32 0
  let main_v37 : IVec S16x1 32 := broadcastInDim S16x1 ![0] bcast_S16_S16x1_0 main_v36
  let main_v38 : IVec S16x22 32 := broadcastInDim S16x22 ![0, 1] bcast_S1x22_S16x22_0_1 main_v35
  let main_v39 : IVec S16x22 32 := broadcastInDim S16x22 ![0, 1] bcast_S16x1_S16x22_0_1 main_v37
  let main_v40 : IVec S16x22 1 := cmpi .eq main_v38 main_v39
  let main_v41 : IVec S1x22 32 := broadcastInDim S1x22 ![1] bcast_S22_S1x22_1 main_v5
  let main_c_4 : IVec S_ 32 := constantI S_ 32 1#32
  fn_part2 (F := F) main_v17 main_v34 main_v40 main_v41 main_c_4

def fn {F : FTy → Type} [FloatOps F] (main_arg0 : IVec S5x22 32) (main_arg1 : FVec F S2048x3584 .bf16) (main_arg2 : FVec F S3584x18944 .fp8e4m3) (main_arg3 : FVec F S18944 .f32) (main_arg4 : FVec F S22x128x256 .bf16) (main_arg5 : IVec S7x2x148x128 32) (main_arg6 : IVec S7x2x18944 8) (main_arg7 : IVec S7x32x2368x3 8) (main_arg8 : IVec S7x222x4736 8) : IVec S22 1 × IVec S22x22 1 × IVec S16 1 :=
  let main_v0 : IVec S1x22 32 := (extractStridedSlice S1x22 ![0, 0] · slices_S5x22_S1x22_0_0) main_arg0
  let main_v1 : IVec S22 32 := shapeCast S22 main_v0 shapeCasts_S1x22_S22
  let main_v2 : IVec S1x22 32 := (extractStridedSlice S1x22 ![1, 0] · slices_S5x22_S1x22_1_0) main_arg0
  let main_v3 : IVec S22 32 := shapeCast S22 main_v2 shapeCasts_S1x22_S22
  let main_v4 : IVec S1x22 32 := (extractStridedSlice S1x22 ![2, 0] · slices_S5x22_S1x22_2_0) main_arg0
  let main_v5 : IVec S22 32 := shapeCast S22 main_v4 shapeCasts_S1x22_S22
  let main_v6 : IVec S22 32 := iotaInDim S22 32 0
  let main_c : IVec S_ 32 := constantI S_ 32 0#32
  let main_v7 : IVec S22 32 := broadcastInDim S22 ![] bcast_S_S22 main_c
  let main_v8 : IVec S22 1 := cmpi .sge main_v1 main_v7
  let main_c_0 : IVec S_ 32 := constantI S_ 32 16#32
  let main_v9 : IVec S22 32 := broadcastInDim S22 ![] bcast_S_S22 main_c_0
  let main_v10 : IVec S22 1 := cmpi .slt main_v1 main_v9
  let main_v11 : IVec S22 1 := andi main_v8 main_v10
  let main_c_1 : IVec S_ 32 := constantI S_ 32 0#32
  let main_v12 : IVec S22 32 := broadcastInDim S22 ![] bcast_S_S22 main_c_1
  let main_v13 : IVec S22 1 := cmpi .sge main_v3 main_v12
  let main_v14 : IVec S22 1 := andi main_v11 main_v13
  let main_c_2 : IVec S_ 32 := constantI S_ 32 7#32
  let main_v15 : IVec S22 32 := broadcastInDim S22 ![] bcast_S_S22 main_c_2
  let main_v16 : IVec S22 1 := cmpi .slt main_v3 main_v15
  let main_v17 : IVec S22 1 := andi main_v14 main_v16
  let main_v18 : IVec S22x1 32 := broadcastInDim S22x1 ![0] bcast_S22_S22x1_0 main_v6
  let main_v19 : IVec S1x22 32 := broadcastInDim S1x22 ![1] bcast_S22_S1x22_1 main_v6
  fn_part1 (F := F) main_v1 main_v5 main_v17 main_v18 main_v19
-- ==== Kernel.lean ====
abbrev S5x22 : Shape := ⟨2, ![5, 22]⟩
abbrev S2048x3584 : Shape := ⟨2, ![2048, 3584]⟩
abbrev S3584x18944 : Shape := ⟨2, ![3584, 18944]⟩
abbrev S18944 : Shape := ⟨1, ![18944]⟩
abbrev S22x128x256 : Shape := ⟨3, ![22, 128, 256]⟩
abbrev S7x2x148x128 : Shape := ⟨4, ![7, 2, 148, 128]⟩
abbrev S7x2x18944 : Shape := ⟨3, ![7, 2, 18944]⟩
abbrev S7x32x2368x3 : Shape := ⟨4, ![7, 32, 2368, 3]⟩
abbrev S7x222x4736 : Shape := ⟨3, ![7, 222, 4736]⟩
abbrev S1x18944 : Shape := ⟨2, ![1, 18944]⟩
abbrev S7x3x32x2368 : Shape := ⟨4, ![7, 3, 32, 2368]⟩
abbrev S2048x18944 : Shape := ⟨2, ![2048, 18944]⟩
abbrev S3584x512 : Shape := ⟨2, ![3584, 512]⟩
abbrev S1x512 : Shape := ⟨2, ![1, 512]⟩
abbrev S7x2x512 : Shape := ⟨3, ![7, 2, 512]⟩
abbrev S7x3x32x128 : Shape := ⟨4, ![7, 3, 32, 128]⟩
abbrev S7x222x128 : Shape := ⟨3, ![7, 222, 128]⟩
abbrev S2048x512 : Shape := ⟨2, ![2048, 512]⟩
abbrev S7x256x512 : Shape := ⟨3, ![7, 256, 512]⟩
abbrev S1x128 : Shape := ⟨2, ![1, 128]⟩
abbrev S1x222x128 : Shape := ⟨3, ![1, 222, 128]⟩
abbrev S222x128 : Shape := ⟨2, ![222, 128]⟩
abbrev S1x1x32x128 : Shape := ⟨4, ![1, 1, 32, 128]⟩
abbrev S32x128 : Shape := ⟨2, ![32, 128]⟩
abbrev S222x128x1 : Shape := ⟨3, ![222, 128, 1]⟩
abbrev S32x128x1 : Shape := ⟨3, ![32, 128, 1]⟩
abbrev S1x2x128 : Shape := ⟨3, ![1, 2, 128]⟩
abbrev S2x128 : Shape := ⟨2, ![2, 128]⟩
abbrev S256x128 : Shape := ⟨2, ![256, 128]⟩
abbrev S1x1x1x128 : Shape := ⟨4, ![1, 1, 1, 128]⟩
abbrev S128x128 : Shape := ⟨2, ![128, 128]⟩
abbrev S1x256x128 : Shape := ⟨3, ![1, 256, 128]⟩
abbrev S1x1 : Shape := ⟨2, ![1, 1]⟩
abbrev S1x128x256 : Shape := ⟨3, ![1, 128, 256]⟩
abbrev S128x256 : Shape := ⟨2, ![128, 256]⟩
abbrev S1x256x512 : Shape := ⟨3, ![1, 256, 512]⟩
abbrev S256x512 : Shape := ⟨2, ![256, 512]⟩
abbrev S128x512 : Shape := ⟨2, ![128, 512]⟩
abbrev S256x3584 : Shape := ⟨2, ![256, 3584]⟩

abbrev nBuf : Space → Nat
  | .hbm => 13
  | .vmem => 18
  | .smem => 1
  | _ => 0

abbrev bufTy : (tb : Table) → Fin (tcTables nBuf tb) → BufTy
  | .hbm, ⟨0, _⟩ => ⟨S5x22, .i32⟩
  | .hbm, ⟨1, _⟩ => ⟨S2048x3584, .bf16⟩
  | .hbm, ⟨2, _⟩ => ⟨S3584x18944, .fp8e4m3⟩
  | .hbm, ⟨3, _⟩ => ⟨S18944, .f32⟩
  | .hbm, ⟨4, _⟩ => ⟨S22x128x256, .bf16⟩
  | .hbm, ⟨5, _⟩ => ⟨S7x2x148x128, .i32⟩
  | .hbm, ⟨6, _⟩ => ⟨S7x2x18944, .i8⟩
  | .hbm, ⟨7, _⟩ => ⟨S7x32x2368x3, .i8⟩
  | .hbm, ⟨8, _⟩ => ⟨S7x222x4736, .i8⟩
  | .hbm, ⟨9, _⟩ => ⟨S1x18944, .f32⟩
  | .hbm, ⟨10, _⟩ => ⟨S7x3x32x2368, .i8⟩
  | .hbm, ⟨11, _⟩ => ⟨S2048x18944, .bf16⟩
  | .hbm, ⟨12, _⟩ => ⟨S2048x18944, .f32⟩
  | .local _ .vmem, ⟨0, _⟩ => ⟨S2048x3584, .bf16⟩
  | .local _ .vmem, ⟨1, _⟩ => ⟨S3584x512, .fp8e4m3⟩
  | .local _ .vmem, ⟨2, _⟩ => ⟨S3584x512, .fp8e4m3⟩
  | .local _ .vmem, ⟨3, _⟩ => ⟨S1x512, .f32⟩
  | .local _ .vmem, ⟨4, _⟩ => ⟨S1x512, .f32⟩
  | .local _ .vmem, ⟨5, _⟩ => ⟨S22x128x256, .bf16⟩
  | .local _ .vmem, ⟨6, _⟩ => ⟨S7x2x148x128, .i32⟩
  | .local _ .vmem, ⟨7, _⟩ => ⟨S7x2x512, .i8⟩
  | .local _ .vmem, ⟨8, _⟩ => ⟨S7x2x512, .i8⟩
  | .local _ .vmem, ⟨9, _⟩ => ⟨S7x3x32x128, .i8⟩
  | .local _ .vmem, ⟨10, _⟩ => ⟨S7x3x32x128, .i8⟩
  | .local _ .vmem, ⟨11, _⟩ => ⟨S7x222x128, .i8⟩
  | .local _ .vmem, ⟨12, _⟩ => ⟨S7x222x128, .i8⟩
  | .local _ .vmem, ⟨13, _⟩ => ⟨S2048x512, .bf16⟩
  | .local _ .vmem, ⟨14, _⟩ => ⟨S2048x512, .bf16⟩
  | .local _ .vmem, ⟨15, _⟩ => ⟨S2048x512, .f32⟩
  | .local _ .vmem, ⟨16, _⟩ => ⟨S2048x512, .f32⟩
  | .local _ .vmem, ⟨17, _⟩ => ⟨S7x256x512, .bf16⟩
  | .local _ .smem, ⟨0, _⟩ => ⟨S5x22, .i32⟩
  | _, _ => ⟨S5x22, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![37], ![false]⟩

@[reducible] def k0_t1_loop : Scf.Loop 32 :=
  let c0_i32 : BitVec 32 := 0#32
  let c7_i32 : BitVec 32 := 7#32
  let v1 : BitVec 32 := Scalar.addi c0_i32 c7_i32
  let c1_i32 : BitVec 32 := 1#32
  ⟨c0_i32, v1, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v4 : Index := Scalar.indexCast arg13
  let c0 : Index := 0#32
  let c0_7 : Index := 0#32
  ![v4.toNat, 0, 0]
def k0_off2 (k0_t1 : Fin k0_t1_loop.trips) : Fin 4 → Nat :=
  let c0_i32 : BitVec 32 := 0#32
  let c1_i32 : BitVec 32 := 1#32
  let arg13 : BitVec 32 := Scf.iv c0_i32 c1_i32 k0_t1
  let v8 : Index := Scalar.indexCast arg13
  let c0_8 : Index := 0#32
  let c0_9 : Index := 0#32
  let c0_10 : Index := 0#32
  ![v8.toNat, 0, 0, 0]
def k0_off3 (k0_t1 : Fin k0_t1_loop.trips) : Fin 4 → Nat :=
  let c0_i32 : BitVec 32 := 0#32
  let c1_i32 : BitVec 32 := 1#32
  let arg13 : BitVec 32 := Scf.iv c0_i32 c1_i32 k0_t1
  let v12 : Index := Scalar.indexCast arg13
  let c1 : Index := 1#32
  let c0_11 : Index := 0#32
  let c0_12 : Index := 0#32
  ![v12.toNat, 1, 0, 0]
def k0_off4 (k0_t1 : Fin k0_t1_loop.trips) : Fin 4 → Nat :=
  let c0_i32 : BitVec 32 := 0#32
  let c1_i32 : BitVec 32 := 1#32
  let arg13 : BitVec 32 := Scf.iv c0_i32 c1_i32 k0_t1
  let v16 : Index := Scalar.indexCast arg13
  let c2 : Index := 2#32
  let c0_13 : Index := 0#32
  let c0_14 : Index := 0#32
  ![v16.toNat, 2, 0, 0]
def k0_off5 (k0_t1 : Fin k0_t1_loop.trips) : Fin 3 → Nat :=
  let c0_i32 : BitVec 32 := 0#32
  let c1_i32 : BitVec 32 := 1#32
  let arg13 : BitVec 32 := Scf.iv c0_i32 c1_i32 k0_t1
  let v89 : Index := Scalar.indexCast arg13
  let c0_32 : Index := 0#32
  let c0_33 : Index := 0#32
  ![v89.toNat, 0, 0]
def k0_off6 (i : grid0.Coords) (k0_t1 : Fin k0_t1_loop.trips) (c0_i32_34 : BitVec 32) : Fin 4 → Nat :=
  let c0_i32 : BitVec 32 := 0#32
  let c1_i32 : BitVec 32 := 1#32
  let arg13 : BitVec 32 := Scf.iv c0_i32 c1_i32 k0_t1
  let v97 : Index := Scalar.indexCast arg13
  let c0_35 : Index := 0#32
  let arg0 : BitVec 32 := BitVec.ofNat 32 (i 0).val
  let c4_i32 : BitVec 32 := 4#32
  let v95 : BitVec 32 := Scalar.muli arg0 c4_i32
  let v96 : BitVec 32 := Scalar.addi v95 c0_i32_34
  let v98 : Index := Scalar.indexCast v96
  let c0_36 : Index := 0#32
  ![v97.toNat, 0, v98.toNat, 0]
def k0_off7 (i : grid0.Coords) (k0_t1 : Fin k0_t1_loop.trips) (c0_i32_38 : BitVec 32) : Fin 4 → Nat :=
  let c0_i32 : BitVec 32 := 0#32
  let c1_i32 : BitVec 32 := 1#32
  let arg13 : BitVec 32 := Scf.iv c0_i32 c1_i32 k0_t1
  let v103 : Index := Scalar.indexCast arg13
  let c1_39 : Index := 1#32
  let arg0 : BitVec 32 := BitVec.ofNat 32 (i 0).val
  let c4_i32_37 : BitVec 32 := 4#32
  let v101 : BitVec 32 := Scalar.muli arg0 c4_i32_37
  let v102 : BitVec 32 := Scalar.addi v101 c0_i32_38
  let v104 : Index := Scalar.indexCast v102
  let c0_40 : Index := 0#32
  ![v103.toNat, 1, v104.toNat, 0]
def k0_off8 (k0_t1 : Fin k0_t1_loop.trips) : Fin 3 → Nat :=
  let c0_i32 : BitVec 32 := 0#32
  let c1_i32 : BitVec 32 := 1#32
  let arg13 : BitVec 32 := Scf.iv c0_i32 c1_i32 k0_t1
  let v123 : Index := Scalar.indexCast arg13
  let c0_41 : Index := 0#32
  let c0_42 : Index := 0#32
  ![v123.toNat, 0, 0]
def k0_off9 (k0_t1 : Fin k0_t1_loop.trips) : Fin 3 → Nat :=
  let c0_i32 : BitVec 32 := 0#32
  let c1_i32 : BitVec 32 := 1#32
  let arg13 : BitVec 32 := Scf.iv c0_i32 c1_i32 k0_t1
  let v196 : Index := Scalar.indexCast arg13
  let c0_64 : Index := 0#32
  let c128 : Index := 128#32
  ![v196.toNat, 0, 128]
def k0_off10 (k0_t1 : Fin k0_t1_loop.trips) : Fin 3 → Nat :=
  let c0_i32 : BitVec 32 := 0#32
  let c1_i32 : BitVec 32 := 1#32
  let arg13 : BitVec 32 := Scf.iv c0_i32 c1_i32 k0_t1
  let v230 : Index := Scalar.indexCast arg13
  let c0_75 : Index := 0#32
  let c128_76 : Index := 128#32
  ![v230.toNat, 0, 128]
def k0_off11 (k0_t1 : Fin k0_t1_loop.trips) : Fin 3 → Nat :=
  let c0_i32 : BitVec 32 := 0#32
  let c1_i32 : BitVec 32 := 1#32
  let arg13 : BitVec 32 := Scf.iv c0_i32 c1_i32 k0_t1
  let v303 : Index := Scalar.indexCast arg13
  let c0_99 : Index := 0#32
  let c256 : Index := 256#32
  ![v303.toNat, 0, 256]
def k0_off12 (k0_t1 : Fin k0_t1_loop.trips) : Fin 3 → Nat :=
  let c0_i32 : BitVec 32 := 0#32
  let c1_i32 : BitVec 32 := 1#32
  let arg13 : BitVec 32 := Scf.iv c0_i32 c1_i32 k0_t1
  let v337 : Index := Scalar.indexCast arg13
  let c0_110 : Index := 0#32
  let c256_111 : Index := 256#32
  ![v337.toNat, 0, 256]
def k0_off13 (k0_t1 : Fin k0_t1_loop.trips) : Fin 3 → Nat :=
  let c0_i32 : BitVec 32 := 0#32
  let c1_i32 : BitVec 32 := 1#32
  let arg13 : BitVec 32 := Scf.iv c0_i32 c1_i32 k0_t1
  let v410 : Index := Scalar.indexCast arg13
  let c0_132 : Index := 0#32
  let c384 : Index := 384#32
  ![v410.toNat, 0, 384]
def k0_off14 (k0_t1 : Fin k0_t1_loop.trips) : Fin 3 → Nat :=
  let c0_i32 : BitVec 32 := 0#32
  let c1_i32 : BitVec 32 := 1#32
  let arg13 : BitVec 32 := Scf.iv c0_i32 c1_i32 k0_t1
  let v444 : Index := Scalar.indexCast arg13
  let c0_143 : Index := 0#32
  let c384_144 : Index := 384#32
  ![v444.toNat, 0, 384]
@[reducible] def k0_t2_loop : Scf.Loop 32 :=
  let c0_i32_1 : BitVec 32 := 0#32
  let c22_i32 : BitVec 32 := 22#32
  let v2 : BitVec 32 := Scalar.addi c0_i32_1 c22_i32
  let c1_i32_2 : BitVec 32 := 1#32
  ⟨c0_i32_1, v2, c1_i32_2⟩
def k0_off15 (k0_t2 : Fin k0_t2_loop.trips) : Fin 2 → Nat :=
  let c0 : Index := 0#32
  let c0_i32_1 : BitVec 32 := 0#32
  let c1_i32_2 : BitVec 32 := 1#32
  let arg13 : BitVec 32 := Scf.iv c0_i32_1 c1_i32_2 k0_t2
  let v4 : Index := Scalar.indexCast arg13
  ![0, v4.toNat]
def k0_mult1 (v5 : BitVec 32) : BitVec 32 :=
  let c128_i32 : BitVec 32 := 128#32
  let v6 : BitVec 32 := Scalar.muli v5 c128_i32
  v6

def k0_off16 (k0_t2 : Fin k0_t2_loop.trips) : Fin 3 → Nat :=
  let c0_i32_1 : BitVec 32 := 0#32
  let c1_i32_2 : BitVec 32 := 1#32
  let arg13 : BitVec 32 := Scf.iv c0_i32_1 c1_i32_2 k0_t2
  let v8 : Index := Scalar.indexCast arg13
  let c0_7 : Index := 0#32
  let c0_8 : Index := 0#32
  ![v8.toNat, 0, 0]
def k0_off17 (k0_t2 : Fin k0_t2_loop.trips) : Fin 2 → Nat :=
  let c1 : Index := 1#32
  let c0_i32_1 : BitVec 32 := 0#32
  let c1_i32_2 : BitVec 32 := 1#32
  let arg13 : BitVec 32 := Scf.iv c0_i32_1 c1_i32_2 k0_t2
  let v11 : Index := Scalar.indexCast arg13
  ![1, v11.toNat]
def k0_off18 (v12 : BitVec 32) : Fin 3 → Nat :=
  let v13 : Index := Scalar.indexCast v12
  let c0_9 : Index := 0#32
  let c0_10 : Index := 0#32
  ![v13.toNat, 0, 0]

def k0_chk2 (v12 : BitVec 32) : Prop :=
  (∀ a, (k0_off18 v12) a + S1x256x512.size a ≤ S7x256x512.size a)
theorem k0_off18_inb : ∀ (v12 : BitVec 32) (k0_hw2 : k0_chk2 v12), ∀ a, (k0_off18 v12) a + S1x256x512.size a ≤ S7x256x512.size a := fun v12 k0_hw2 => k0_hw2

def k0_off19 (v5 : BitVec 32) : Fin 2 → Nat :=
  let c128_i32 : BitVec 32 := 128#32
  let v6 : BitVec 32 := Scalar.muli v5 c128_i32
  let v7 : BitVec 32 := v6
  let v17 : Index := Scalar.indexCast v7
  let c0_11 : Index := 0#32
  ![v17.toNat, 0]

def k0_chk1 (v5 : BitVec 32) : Prop :=
  (128 ∣ (k0_mult1 v5).toNat) ∧
  (∀ a, (k0_off19 v5) a + S128x512.size a ≤ S2048x512.size a)
theorem k0_mult1_dvd : ∀ (v5 : BitVec 32) (k0_hw1 : k0_chk1 v5), 128 ∣ (k0_mult1 v5).toNat := fun v5 k0_hw1 => k0_hw1.1
theorem k0_off19_inb : ∀ (v5 : BitVec 32) (k0_hw1 : k0_chk1 v5), ∀ a, (k0_off19 v5) a + S128x512.size a ≤ S2048x512.size a := fun v5 k0_hw1 => k0_hw1.2

def k0_off20 (k0_t2 : Fin k0_t2_loop.trips) : Fin 2 → Nat :=
  let c2 : Index := 2#32
  let c0_i32_1 : BitVec 32 := 0#32
  let c1_i32_2 : BitVec 32 := 1#32
  let arg13 : BitVec 32 := Scf.iv c0_i32_1 c1_i32_2 k0_t2
  let v20 : Index := Scalar.indexCast arg13
  ![2, v20.toNat]
@[reducible] def k0_t3_loop : Scf.Loop 32 :=
  let c0_i32_4 : BitVec 32 := 0#32
  let c8_i32 : BitVec 32 := 8#32
  let v3 : BitVec 32 := Scalar.addi c0_i32_4 c8_i32
  let c1_i32_5 : BitVec 32 := 1#32
  ⟨c0_i32_4, v3, c1_i32_5⟩
def k0_mult2 (k0_t3 : Fin k0_t3_loop.trips) : BitVec 32 :=
  let c0_i32_4 : BitVec 32 := 0#32
  let c1_i32_5 : BitVec 32 := 1#32
  let arg13 : BitVec 32 := Scf.iv c0_i32_4 c1_i32_5 k0_t3
  let c256_i32 : BitVec 32 := 256#32
  let v4 : BitVec 32 := Scalar.muli arg13 c256_i32
  v4
def k0_off21 (k0_t3 : Fin k0_t3_loop.trips) : Fin 2 → Nat :=
  let c0_i32_4 : BitVec 32 := 0#32
  let c1_i32_5 : BitVec 32 := 1#32
  let arg13 : BitVec 32 := Scf.iv c0_i32_4 c1_i32_5 k0_t3
  let c256_i32 : BitVec 32 := 256#32
  let v4 : BitVec 32 := Scalar.muli arg13 c256_i32
  let v5 : BitVec 32 := v4
  let v6 : Index := Scalar.indexCast v5
  let c0 : Index := 0#32
  ![v6.toNat, 0]
def k0_off22 (k0_t3 : Fin k0_t3_loop.trips) : Fin 2 → Nat :=
  let c0_i32_4 : BitVec 32 := 0#32
  let c1_i32_5 : BitVec 32 := 1#32
  let arg13 : BitVec 32 := Scf.iv c0_i32_4 c1_i32_5 k0_t3
  let c256_i32 : BitVec 32 := 256#32
  let v4 : BitVec 32 := Scalar.muli arg13 c256_i32
  let v5 : BitVec 32 := v4
  let v15 : Index := Scalar.indexCast v5
  let c0_11 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, c0_i32_5.toNat, c0_i32_6.toNat, v16.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S5x22 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S22x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x2x148x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S7x2x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S7x3x32x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S7x222x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S5x22 : Shape := ⟨2, ![5, 22]⟩
abbrev S2048x3584 : Shape := ⟨2, ![2048, 3584]⟩
abbrev S3584x18944 : Shape := ⟨2, ![3584, 18944]⟩
abbrev S18944 : Shape := ⟨1, ![18944]⟩
abbrev S22x128x256 : Shape := ⟨3, ![22, 128, 256]⟩
abbrev S7x2x148x128 : Shape := ⟨4, ![7, 2, 148, 128]⟩
abbrev S7x2x18944 : Shape := ⟨3, ![7, 2, 18944]⟩
abbrev S7x32x2368x3 : Shape := ⟨4, ![7, 32, 2368, 3]⟩
abbrev S7x222x4736 : Shape := ⟨3, ![7, 222, 4736]⟩
abbrev S1x22 : Shape := ⟨2, ![1, 22]⟩
abbrev S22 : Shape := ⟨1, ![22]⟩
abbrev S7x32x2368x1 : Shape := ⟨4, ![7, 32, 2368, 1]⟩
abbrev S7x32x2368 : Shape := ⟨3, ![7, 32, 2368]⟩
abbrev S_ : Shape := ⟨0, ![]⟩
abbrev S7x32x2368x8 : Shape := ⟨4, ![7, 32, 2368, 8]⟩
abbrev S7x32x18944 : Shape := ⟨3, ![7, 32, 18944]⟩
abbrev S7x222x4736x1 : Shape := ⟨4, ![7, 222, 4736, 1]⟩
abbrev S7x222x4736x4 : Shape := ⟨4, ![7, 222, 4736, 4]⟩
abbrev S7x222x18944 : Shape := ⟨3, ![7, 222, 18944]⟩
abbrev S7x256x18944 : Shape := ⟨3, ![7, 256, 18944]⟩
abbrev S7x2x128x148 : Shape := ⟨4, ![7, 2, 128, 148]⟩
abbrev S7x256x148 : Shape := ⟨3, ![7, 256, 148]⟩
abbrev S7x256x148x128 : Shape := ⟨4, ![7, 256, 148, 128]⟩
abbrev S22x1 : Shape := ⟨2, ![22, 1]⟩
abbrev S1 : Shape := ⟨1, ![1]⟩
abbrev S1x1 : Shape := ⟨2, ![1, 1]⟩
abbrev S22x256x18944 : Shape := ⟨3, ![22, 256, 18944]⟩
abbrev S22x128x18944 : Shape := ⟨3, ![22, 128, 18944]⟩
abbrev S16 : Shape := ⟨1, ![16]⟩
abbrev S16x1 : Shape := ⟨2, ![16, 1]⟩
abbrev S16x22 : Shape := ⟨2, ![16, 22]⟩
abbrev S16x128x18944 : Shape := ⟨3, ![16, 128, 18944]⟩
abbrev S2048x18944 : Shape := ⟨2, ![2048, 18944]⟩
abbrev S1x18944 : Shape := ⟨2, ![1, 18944]⟩

abbrev nBuf : Space → Nat
  | .hbm => 173
  | .vmem => 5
  | .smem => 0
  | _ => 0

abbrev hbmTy0_0 (i : Nat) : BufTy := match i % 128 with
  | 0 => ⟨S5x22, .i32⟩
  | 1 => ⟨S2048x3584, .bf16⟩
  | 2 => ⟨S3584x18944, .fp8e4m3⟩
  | 3 => ⟨S18944, .f32⟩
  | 4 => ⟨S22x128x256, .bf16⟩
  | 5 => ⟨S7x2x148x128, .i32⟩
  | 6 => ⟨S7x2x18944, .i8⟩
  | 7 => ⟨S7x32x2368x3, .i8⟩
  | 8 => ⟨S7x222x4736, .i8⟩
  | 9 => ⟨S1x22, .i32⟩
  | 10 => ⟨S22, .i32⟩
  | 11 => ⟨S1x22, .i32⟩
  | 12 => ⟨S22, .i32⟩
  | 13 => ⟨S7x32x2368x3, .i32⟩
  | 14 => ⟨S7x32x2368x1, .i32⟩
  | 15 => ⟨S7x32x2368, .i32⟩
  | 16 => ⟨S7x32x2368x1, .i32⟩
  | 17 => ⟨S7x32x2368, .i32⟩
  | 18 => ⟨S_, .i32⟩
  | 19 => ⟨S7x32x2368, .i32⟩
  | 20 => ⟨S7x32x2368, .i32⟩
  | 21 => ⟨S7x32x2368, .i32⟩
  | 22 => ⟨S7x32x2368x1, .i32⟩
  | 23 => ⟨S7x32x2368, .i32⟩
  | 24 => ⟨S_, .i32⟩
  | 25 => ⟨S7x32x2368, .i32⟩
  | 26 => ⟨S7x32x2368, .i32⟩
  | 27 => ⟨S7x32x2368, .i32⟩
  | 28 => ⟨S_, .i32⟩
  | 29 => ⟨S7x32x2368, .i32⟩
  | 30 => ⟨S7x32x2368, .i32⟩
  | 31 => ⟨S_, .i32⟩
  | 32 => ⟨S7x32x2368, .i32⟩
  | 33 => ⟨S7x32x2368, .i32⟩
  | 34 => ⟨S_, .i32⟩
  | 35 => ⟨S7x32x2368, .i32⟩
  | 36 => ⟨S7x32x2368, .i32⟩
  | 37 => ⟨S_, .i32⟩
  | 38 => ⟨S7x32x2368, .i32⟩
  | 39 => ⟨S7x32x2368, .i32⟩
  | 40 => ⟨S_, .i32⟩
  | 41 => ⟨S7x32x2368, .i32⟩
  | 42 => ⟨S7x32x2368, .i32⟩
  | 43 => ⟨S_, .i32⟩
  | 44 => ⟨S7x32x2368, .i32⟩
  | 45 => ⟨S7x32x2368, .i32⟩
  | 46 => ⟨S_, .i32⟩
  | 47 => ⟨S7x32x2368, .i32⟩
  | 48 => ⟨S7x32x2368, .i32⟩
  | 49 => ⟨S_, .i32⟩
  | 50 => ⟨S7x32x2368, .i32⟩
  | 51 => ⟨S7x32x2368, .i32⟩
  | 52 => ⟨S_, .i32⟩
  | 53 => ⟨S7x32x2368, .i32⟩
  | 54 => ⟨S7x32x2368, .i32⟩
  | 55 => ⟨S_, .i32⟩
  | 56 => ⟨S7x32x2368, .i32⟩
  | 57 => ⟨S7x32x2368, .i32⟩
  | 58 => ⟨S_, .i32⟩
  | 59 => ⟨S7x32x2368, .i32⟩
  | 60 => ⟨S7x32x2368, .i32⟩
  | 61 => ⟨S_, .i32⟩
  | 62 => ⟨S7x32x2368, .i32⟩
  | 63 => ⟨S7x32x2368, .i32⟩
  | 64 => ⟨S_, .i32⟩
  | 65 => ⟨S7x32x2368, .i32⟩
  | 66 => ⟨S7x32x2368, .i32⟩
  | 67 => ⟨S_, .i32⟩
  | 68 => ⟨S7x32x2368, .i32⟩
  | 69 => ⟨S7x32x2368, .i32⟩
  | 70 => ⟨S_, .i32⟩
  | 71 => ⟨S7x32x2368, .i32⟩
  | 72 => ⟨S7x32x2368, .i32⟩
  | 73 => ⟨S_, .i32⟩
  | 74 => ⟨S7x32x2368, .i32⟩
  | 75 => ⟨S7x32x2368, .i32⟩
  | 76 => ⟨S7x32x2368x1, .i32⟩
  | 77 => ⟨S7x32x2368x1, .i32⟩
  | 78 => ⟨S7x32x2368x1, .i32⟩
  | 79 => ⟨S7x32x2368x1, .i32⟩
  | 80 => ⟨S7x32x2368x1, .i32⟩
  | 81 => ⟨S7x32x2368x1, .i32⟩
  | 82 => ⟨S7x32x2368x1, .i32⟩
  | 83 => ⟨S7x32x2368x1, .i32⟩
  | 84 => ⟨S7x32x2368x8, .i32⟩
  | 85 => ⟨S7x32x18944, .i32⟩
  | 86 => ⟨S7x222x4736, .i32⟩
  | 87 => ⟨S_, .i32⟩
  | 88 => ⟨S7x222x4736, .i32⟩
  | 89 => ⟨S7x222x4736, .i32⟩
  | 90 => ⟨S_, .i32⟩
  | 91 => ⟨S7x222x4736, .i32⟩
  | 92 => ⟨S7x222x4736, .i32⟩
  | 93 => ⟨S_, .i32⟩
  | 94 => ⟨S7x222x4736, .i32⟩
  | 95 => ⟨S7x222x4736, .i32⟩
  | 96 => ⟨S_, .i32⟩
  | 97 => ⟨S7x222x4736, .i32⟩
  | 98 => ⟨S7x222x4736, .i32⟩
  | 99 => ⟨S_, .i32⟩
  | 100 => ⟨S7x222x4736, .i32⟩
  | 101 => ⟨S7x222x4736, .i32⟩
  | 102 => ⟨S_, .i32⟩
  | 103 => ⟨S7x222x4736, .i32⟩
  | 104 => ⟨S7x222x4736, .i32⟩
  | 105 => ⟨S_, .i32⟩
  | 106 => ⟨S7x222x4736, .i32⟩
  | 107 => ⟨S7x222x4736, .i32⟩
  | 108 => ⟨S_, .i32⟩
  | 109 => ⟨S7x222x4736, .i32⟩
  | 110 => ⟨S7x222x4736, .i32⟩
  | 111 => ⟨S7x222x4736x1, .i32⟩
  | 112 => ⟨S7x222x4736x1, .i32⟩
  | 113 => ⟨S7x222x4736x1, .i32⟩
  | 114 => ⟨S7x222x4736x1, .i32⟩
  | 115 => ⟨S7x222x4736x4, .i32⟩
  | 116 => ⟨S7x222x18944, .i32⟩
  | 117 => ⟨S7x2x18944, .i32⟩
  | 118 => ⟨S7x256x18944, .i32⟩
  | 119 => ⟨S_, .i32⟩
  | 120 => ⟨S7x2x148x128, .i32⟩
  | 121 => ⟨S7x2x148x128, .i32⟩
  | 122 => ⟨S7x2x128x148, .i32⟩
  | 123 => ⟨S7x256x148, .i32⟩
  | 124 => ⟨S_, .i32⟩
  | 125 => ⟨S7x2x148x128, .i32⟩
  | 126 => ⟨S7x2x148x128, .i32⟩
  | 127 => ⟨S7x2x148x128, .f32⟩
  | _ => ⟨S5x22, .i32⟩

abbrev hbmTy0_1 (i : Nat) : BufTy := match i % 128 with
  | 0 => ⟨S7x2x128x148, .f32⟩
  | 1 => ⟨S7x256x148, .f32⟩
  | 2 => ⟨S7x256x148x128, .i32⟩
  | 3 => ⟨S7x256x18944, .i32⟩
  | 4 => ⟨S7x256x148x128, .f32⟩
  | 5 => ⟨S7x256x18944, .f32⟩
  | 6 => ⟨S7x256x18944, .i32⟩
  | 7 => ⟨S7x256x18944, .bf16⟩
  | 8 => ⟨S7x256x18944, .bf16⟩
  | 9 => ⟨S7x256x18944, .bf16⟩
  | 10 => ⟨S_, .i32⟩
  | 11 => ⟨S22, .i32⟩
  | 12 => ⟨S22, .i1⟩
  | 13 => ⟨S_, .i32⟩
  | 14 => ⟨S22, .i32⟩
  | 15 => ⟨S22, .i32⟩
  | 16 => ⟨S22, .i32⟩
  | 17 => ⟨S22x1, .i32⟩
  | 18 => ⟨S1, .i32⟩
  | 19 => ⟨S_, .i32⟩
  | 20 => ⟨S22x1, .i32⟩
  | 21 => ⟨S22x1, .i1⟩
  | 22 => ⟨S1x1, .i32⟩
  | 23 => ⟨S22x1, .i32⟩
  | 24 => ⟨S22x1, .i1⟩
  | 25 => ⟨S22x1, .i1⟩
  | 26 => ⟨S_, .i1⟩
  | 27 => ⟨S22, .i1⟩
  | 28 => ⟨S22x256x18944, .bf16⟩
  | 29 => ⟨S22x256x18944, .i1⟩
  | 30 => ⟨S_, .bf16⟩
  | 31 => ⟨S22x256x18944, .bf16⟩
  | 32 => ⟨S22x256x18944, .bf16⟩
  | 33 => ⟨S22x128x18944, .f32⟩
  | 34 => ⟨S1x22, .i32⟩
  | 35 => ⟨S16, .i32⟩
  | 36 => ⟨S16x1, .i32⟩
  | 37 => ⟨S16x22, .i32⟩
  | 38 => ⟨S16x22, .i32⟩
  | 39 => ⟨S16x22, .i1⟩
  | 40 => ⟨S16x22, .f32⟩
  | 41 => ⟨S16x128x18944, .f32⟩
  | 42 => ⟨S2048x18944, .f32⟩
  | 43 => ⟨S1x18944, .f32⟩
  | 44 => ⟨S2048x18944, .bf16⟩
  | _ => ⟨S5x22, .i32⟩

abbrev hbmTy (i : Nat) : BufTy := match i / 128 with
  | 0 => hbmTy0_0 i
  | 1 => hbmTy0_1 i
  | _ => ⟨S5x22, .i32⟩

abbrev bufTy : (tb : Table) → Fin (tcTables nBuf tb) → BufTy
  | .hbm, ⟨i, _⟩ => hbmTy i
  | .local _ .vmem, ⟨0, _⟩ => ⟨S2048x3584, .bf16⟩
  | .local _ .vmem, ⟨1, _⟩ => ⟨S3584x18944, .fp8e4m3⟩
  | .local _ .vmem, ⟨2, _⟩ => ⟨S1x18944, .f32⟩
  | .local _ .vmem, ⟨3, _⟩ => ⟨S2048x18944, .f32⟩
  | .local _ .vmem, ⟨4, _⟩ => ⟨S2048x18944, .bf16⟩
  | _, _ => ⟨S5x22, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_c_9 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_c_12 : Ref sig .tc := ⟨.hbm, 61, rfl⟩
abbrev main_v39 : Ref sig .tc := ⟨.hbm, 62, rfl⟩
abbrev main_v40 : Ref sig .tc := ⟨.hbm, 63, rfl⟩
abbrev main_c_13 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_v43 : Ref sig .tc := ⟨.hbm, 68, rfl⟩
abbrev main_v44 : Ref sig .tc := ⟨.hbm, 69, rfl⟩
abbrev main_c_15 : Ref sig .tc := ⟨.hbm, 70, rfl⟩
abbrev main_v45 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_17 : Ref sig .tc := ⟨.hbm, 87, rfl⟩
abbrev main_v60 : Ref sig .tc := ⟨.hbm, 88, rfl⟩
abbrev main_v61 : Ref sig .tc := ⟨.hbm, 89, rfl⟩
abbrev main_c_18 : Ref sig .tc := ⟨.hbm, 90, rfl⟩
abbrev main_v62 : Ref sig .tc := ⟨.hbm, 91, rfl⟩
abbrev main_v63 : Ref sig .tc := ⟨.hbm, 92, rfl⟩
abbrev main_c_19 : Ref sig .tc := ⟨.hbm, 93, rfl⟩
abbrev main_v64 : Ref sig .tc := ⟨.hbm, 94, rfl⟩
abbrev main_v65 : Ref sig .tc := ⟨.hbm, 95, rfl⟩
abbrev main_c_20 : Ref sig .tc := ⟨.hbm, 96, rfl⟩
abbrev main_v66 : Ref sig .tc := ⟨.hbm, 97, rfl⟩
abbrev main_v67 : Ref sig .tc := ⟨.hbm, 98, rfl⟩
abbrev main_c_21 : Ref sig .tc := ⟨.hbm, 99, rfl⟩
abbrev main_v68 : Ref sig .tc := ⟨.hbm, 100, rfl⟩
abbrev main_v69 : Ref sig .tc := ⟨.hbm, 101, rfl⟩
abbrev main_c_22 : Ref sig .tc := ⟨.hbm, 102, rfl⟩
abbrev main_v70 : Ref sig .tc := ⟨.hbm, 103, rfl⟩
abbrev main_v71 : Ref sig .tc := ⟨.hbm, 104, rfl⟩
abbrev main_c_23 : Ref sig .tc := ⟨.hbm, 105, rfl⟩
abbrev main_v72 : Ref sig .tc := ⟨.hbm, 106, rfl⟩
abbrev main_v73 : Ref sig .tc := ⟨.hbm, 107, rfl⟩
abbrev main_c_24 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_25 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_26 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_call0_c : Ref sig .tc := ⟨.hbm, 138, rfl⟩
abbrev main_call0_v0 : Ref sig .tc := ⟨.hbm, 139, rfl⟩
abbrev main_call0_v1 : Ref sig .tc := ⟨.hbm, 140, rfl⟩
abbrev main_call0_c_0 : Ref sig .tc := ⟨.hbm, 141, rfl⟩
abbrev main_call0_v2 : Ref sig .tc := ⟨.hbm, 142, rfl⟩
abbrev main_call0_v3 : Ref sig .tc := ⟨.hbm, 143, rfl⟩
abbrev main_call0_v4 : Ref sig .tc := ⟨.hbm, 144, rfl⟩
abbrev main_call0_v5 : Ref sig .tc := ⟨.hbm, 145, rfl⟩
abbrev main_call0_c_1 : Ref sig .tc := ⟨.hbm, 146, rfl⟩
abbrev main_call0_c_2 : Ref sig .tc := ⟨.hbm, 147, rfl⟩
abbrev main_call0_v6 : Ref sig .tc := ⟨.hbm, 148, rfl⟩
abbrev main_call0_v7 : Ref sig .tc := ⟨.hbm, 149, rfl⟩
abbrev main_call0_v8 : Ref sig .tc := ⟨.hbm, 150, rfl⟩
abbrev main_call0_v9 : Ref sig .tc := ⟨.hbm, 151, rfl⟩
abbrev main_call0_v10 : Ref sig .tc := ⟨.hbm, 152, rfl⟩
abbrev main_call0_v11 : Ref sig .tc := ⟨.hbm, 153, rfl⟩
abbrev main_call0_c_3 : Ref sig .tc := ⟨.hbm, 154, rfl⟩
abbrev main_call0_v12 : Ref sig .tc := ⟨.hbm, 155, rfl⟩
abbrev main_call0_v13 : Ref sig .tc := ⟨.hbm, 156, rfl⟩
abbrev main_call0_v14 : Ref sig .tc := ⟨.hbm, 157, rfl⟩
abbrev main_call0_cst : Ref sig .tc := ⟨.hbm, 158, rfl⟩
abbrev main_call0_v15 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2048x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x18944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Run.lean ====
/- The kernel body of `proofs.«01_k».proof.Kernel`, run once over any whole staging buffers. -/
module

public import proofs.«01_k».proof.Proof.Gen.Kernel.Frame
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the scratch holds after the first loop: the pieces of its seven trips over what it held. -/
abbrev scr (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (f12 : BufTy.Contents (Elt F) arg12.view.ty) : BufTy.Contents (Elt F) arg12.view.ty :=
  arg12.view.writes (Elt F) f12 (pb_k0_t1 (F := F) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) (iota .tc S1x128 32 [1] iota_S1x128_d1_w32) (harg6.unread x5) (harg7.unread x6) (harg8.unread x7) (harg9.unread x8) k0_t1_loop.trips)

/-- What the second output's buffer holds after the slot loop: the pieces of its trips over what it held, the products
    reading the scratch contents `g12`. -/
abbrev acc (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (g12 : BufTy.Contents (Elt F) arg12.view.ty) (f11 : BufTy.Contents (Elt F) arg11.view.ty)
    (hw1 : ∀ (kq : ℕ) (hkq : kq < k0_t2_loop.trips), k0_chk1 (arg1.view.readAt (Elt F) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt F) (Rect.unit (s := S5x22) (k0_off17 ⟨kq, hkq⟩) S1x1.size (k0_off17_inb ⟨kq, hkq⟩)).toLoadRect (harg1.unread x0) (Shape.Idx.first (numel1_S1x1.symm ▸ Nat.one_pos)))) : BufTy.Contents (Elt F) arg11.view.ty :=
  arg11.view.writes (Elt F) f11 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 f11 hw1 hw2 k0_t2_loop.trips)

/-- What the first output's buffer holds after the last loop: the pieces of its eight trips over what it held, reading
    the second output's contents `g11`. -/
abbrev fin (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (g11 : BufTy.Contents (Elt F) arg11.view.ty) (f10 : BufTy.Contents (Elt F) arg10.view.ty) : BufTy.Contents (Elt F) arg10.view.ty :=
  arg10.view.writes (Elt F) f10 (pb_k0_t3 (F := F) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 k0_t3_loop.trips)

set_option maxHeartbeats 1000000 in
/-- The body's triple: on whole staging buffers, the inputs' at their contents and the outputs' and the scratch at anything,
    the body runs to the continuation holding the inputs' as they were and the other three at the pieces the loops wrote. The
    two side conditions the slot loop assumes are hypotheses. -/
theorem kernelRun (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (f10 : BufTy.Contents (Elt F) arg10.view.ty) (f11 : BufTy.Contents (Elt F) arg11.view.ty) (f12 : BufTy.Contents (Elt F) arg12.view.ty)
    (hw1 : ∀ (kq : ℕ) (hkq : kq < k0_t2_loop.trips), k0_chk1 (arg1.view.readAt (Elt F) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt F) (Rect.unit (s := S5x22) (k0_off17 ⟨kq, hkq⟩) S1x1.size (k0_off17_inb ⟨kq, hkq⟩)).toLoadRect (harg1.unread x0) (Shape.Idx.first (numel1_S1x1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (arg10.view.loc (c : Thread nD τ) ↦[arg10.view.set]{fullShare} fin c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (acc c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12) f11 hw1 hw2) f10)
                ∗ (arg11.view.loc (c : Thread nD τ) ↦[arg11.view.set]{fullShare} acc c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12) f11 hw1 hw2)
                ∗ (arg12.view.loc (c : Thread nD τ) ↦[arg12.view.set]{fullShare} scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12) K := by
    intro E K
    simp only [cc0_main_eq_skeleton]; unfold cc0_main_skel
    unfold owns
    iintro ⟨⟨%g1, %hf1, H1⟩, ⟨%g2, %hf2, H2⟩, ⟨%g3, %hf3, H3⟩, ⟨%g4, %hf4, H4⟩, ⟨%g5, %hf5, H5⟩, ⟨%g6, %hf6, H6⟩, ⟨%g7, %hf7, H7⟩, ⟨%g8, %hf8, H8⟩, ⟨%g9, %hf9, H9⟩, H10, H11, H12, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    iexact H12

end Cert.Kernel.Hand

end
-- ==== Proof.Tab.lean ====
/- What the slot table's precondition says, read off its printed boolean arrays. -/
module

public import proofs.«01_k».proof.Pre_tab_ok
public import proofs.«01_k».proof.Proof.Gen.Pre_tab_ok
public import Idealize.ShloMosaic.Lib.Pointwise
public import Idealize.ShloMosaic.Lib.WordCmp

@[expose] public section

set_option maxRecDepth 16384

noncomputable section

namespace Cert.Tab

open Idealize.ShloMosaic

/-- A slot table the kernel accepts: row 0 names a block of the sixteen, row 1 a tenant of the seven; a slot whose flag
    (row 2) is one has no earlier slot of its block, and every block has a flagged slot. -/
structure OK (x : IVec (⟨2, ![5, 22]⟩ : Shape) 32) : Prop where
  block : ∀ s : Fin 22, (x (ix2 (0 : Fin 5) s)).toNat < 16
  tenant : ∀ s : Fin 22, (x (ix2 (1 : Fin 5) s)).toNat < 7
  first : ∀ i j : Fin 22, i < j → x (ix2 (0 : Fin 5) i) = x (ix2 (0 : Fin 5) j) → x (ix2 (2 : Fin 5) j) ≠ 1#32
  cover : ∀ b : Fin 16, ∃ s : Fin 22, x (ix2 (0 : Fin 5) s) = BitVec.ofNat 32 b ∧ x (ix2 (2 : Fin 5) s) = 1#32

section
open Cert.Pre_tab_ok Cert.Pre_tab_ok.Gen

variable {F : FTy → Type} [FloatOps F]

/-- Two one-bit words are both one where their conjunction is. -/
theorem andi_one (a b : BitVec 1) : IntOp.andi a b = 1#1 ↔ a = 1#1 ∧ b = 1#1 := by
  revert a b; decide

/-- The complement of a one-bit word is one where the word is not. -/
theorem not_one (a : BitVec 1) : ~~~a = 1#1 ↔ a ≠ 1#1 := by
  revert a; decide

/-- The disjunction of two one-bit words is one where one of them is. -/
theorem ori_one (a b : BitVec 1) : IntOp.ori a b = 1#1 ↔ a = 1#1 ∨ b = 1#1 := by
  revert a b; decide

/-- The equality comparison of two words is one where they are equal. -/
theorem eq_one (a b : BitVec 32) : IntOp.cmpi .eq a b = 1#1 ↔ a = b := by
  change BitVec.ofBool (a == b) = 1#1 ↔ a = b
  by_cases h : a = b
  · simp [h]
  · have e : (a == b) = false := beq_eq_false_iff_ne.mpr h
    rw [e]
    exact ⟨fun e => absurd e (by decide), fun e => absurd e h⟩

/-- A word between zero and `n`, as a signed word, is below `n`. -/
theorem lt_of_cmp (w : BitVec 32) (n : ℕ) (hn : n < 2 ^ 31) (h0 : IntOp.cmpi .sge w 0#32 = 1#1)
    (h1 : IntOp.cmpi .slt w (BitVec.ofNat 32 n) = 1#1) : w.toNat < n := by
  unfold IntOp.cmpi at h0 h1
  have e0 : (0 : ℤ) ≤ w.toInt := by
    by_contra hc
    simp [BitVec.sle, BitVec.slt, hc] at h0
  have e1 : w.toInt < (BitVec.ofNat 32 n).toInt := by
    by_contra hc
    simp [BitVec.slt, hc] at h1
  rw [BitVec.toInt_eq_toNat_cond] at e0 e1
  rw [BitVec.toInt_eq_toNat_cond, BitVec.toNat_ofNat, Nat.mod_eq_of_lt (by omega)] at e1
  have := w.isLt
  split at e0 <;> split at e1 <;> omega

/-- A disjunction over a finite set that is one has a member that is one. -/
theorem fold_ori_one {ι : Type} [DecidableEq ι] (s : Finset ι) (f : ι → BitVec 1) (h : Finset.fold IntOp.ori (0#1) f s = 1#1) :
    ∃ i ∈ s, f i = 1#1 := by
  induction s using Finset.induction_on with
  | empty => rw [Finset.fold_empty] at h; exact absurd h (by decide)
  | insert a s ha ih =>
    rw [Finset.fold_insert ha, ori_one] at h
    rcases h with h | h
    · exact ⟨a, Finset.mem_insert_self _ _, h⟩
    · obtain ⟨i, hi, e⟩ := ih h
      exact ⟨i, Finset.mem_insert_of_mem hi, e⟩

/-- The printed predicate, true everywhere, is `OK`. -/
theorem ok_of (x : IVec S5x22 32) (a1 : FVec F S2048x3584 .bf16) (a2 : FVec F S3584x18944 .fp8e4m3) (a3 : FVec F S18944 .f32)
    (a4 : FVec F S22x128x256 .bf16) (a5 : IVec S7x2x148x128 32) (a6 : IVec S7x2x18944 8) (a7 : IVec S7x32x2368x3 8) (a8 : IVec S7x222x4736 8)
    (h : (fn (F := F) x a1 a2 a3 a4 a5 a6 a7 a8).1 = (fun _ => 1#1) ∧ (fn (F := F) x a1 a2 a3 a4 a5 a6 a7 a8).2.1 = (fun _ => 1#1)
      ∧ (fn (F := F) x a1 a2 a3 a4 a5 a6 a7 a8).2.2 = (fun _ => 1#1)) : OK x := by
  obtain ⟨h1, h2, h3⟩ := h
  refine ⟨fun s => ?_, fun s => ?_, fun i j hij he hf => ?_, fun b => ?_⟩
  · have h := congrFun h1 (ix1 s)
    pointwise [fn, fn_part1, fn_part2] at h
    simp only [andi_one] at h
    exact lt_of_cmp _ 16 (by decide) h.1.1.1 h.1.1.2
  · have h := congrFun h1 (ix1 s)
    pointwise [fn, fn_part1, fn_part2] at h
    simp only [andi_one] at h
    exact lt_of_cmp _ 7 (by decide) h.1.2 h.2
  · have h := congrFun h2 (ix2 i j)
    pointwise [fn, fn_part1, fn_part2] at h
    rw [not_one] at h
    refine h ?_
    simp only [andi_one, eq_one]
    refine ⟨⟨?_, he⟩, hf⟩
    have hi := i.isLt
    have hj := j.isLt
    have hij' : i.val < j.val := hij
    word_cmp
  · have h := congrFun h3 (ix1 b)
    pointwise [fn, fn_part1, fn_part2] at h
    obtain ⟨s, -, h⟩ := fold_ori_one _ _ h
    simp only [andi_one, eq_one] at h
    exact ⟨s, h⟩

end

end Cert.Tab

end
-- ==== Proof.Kernel.Frame.lean ====
/- The frame of `proofs.«01_k».proof.Kernel` on a table the precondition admits: the proof data of the pipeline with both outputs
   forgotten, the body obligation, the run, the arguments unchanged and every semaphore at zero. -/
module

public import proofs.«01_k».proof.Proof.Kernel.Run
public import proofs.«01_k».proof.Proof.Tab
public import Idealize.ShloMosaic.Lib.Pipeline.ValueKit

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's words and the two side conditions -/

/-- Every device's table is one the kernel accepts. -/
def TabOK : Prop := ∀ c : Dev nD, Cert.Tab.OK (show IVec (⟨2, ![5, 22]⟩ : Shape) 32 from m ((c : Thread nD τ).loc main_arg0))

theorem trips2 : k0_t2_loop.trips = 22 := by decide +kernel
theorem off15 : ∀ k : Fin k0_t2_loop.trips, k0_off15 k = ![0, k.val] := by decide +kernel
theorem off17 : ∀ k : Fin k0_t2_loop.trips, k0_off17 k = ![1, k.val] := by decide +kernel
theorem chk1_of : ∀ n : Fin 16, k0_chk1 (BitVec.ofNat 32 n.val) := by decide +kernel
theorem chk2_of : ∀ n : Fin 7, k0_chk2 (BitVec.ofNat 32 n.val) := by decide +kernel

/-- A word below sixteen meets the first side condition. -/
theorem chk1_of_lt (w : BitVec 32) (h : w.toNat < 16) : k0_chk1 w := by
  have := chk1_of ⟨w.toNat, h⟩
  rwa [BitVec.ofNat_toNat, BitVec.setWidth_eq] at this

/-- A word below seven meets the second. -/
theorem chk2_of_lt (w : BitVec 32) (h : w.toNat < 7) : k0_chk2 w := by
  have := chk2_of ⟨w.toNat, h⟩
  rwa [BitVec.ofNat_toNat, BitVec.setWidth_eq] at this

/-- The block word a trip of the slot loop reads off a table buffer. -/
theorem word_block (arg1 : Memref sig .tc .smem S5x22 .i32) (harg1 : arg1.IsWhole) (x0 : Vec F S5x22 .i32) (k : Fin k0_t2_loop.trips) :
    arg1.view.readAt (Elt F) (Rect.unit (s := S5x22) (k0_off15 k) S1x1.size (k0_off15_inb k)).toLoadRect (harg1.unread x0) (Shape.Idx.first (numel1_S1x1.symm ▸ Nat.one_pos))
      = x0 (ix2 (0 : Fin 5) (⟨k.val, trips2 ▸ k.isLt⟩ : Fin 22)) := by
  change arg1.view.read (Elt F) (harg1.unread x0) _ = _
  rw [harg1.read_unread]
  refine congrArg x0 ?_
  funext a; apply Fin.ext
  change (k0_off15 k) a + 1 * (Shape.Idx.first (s := S1x1) _ a).val = _
  have h1 : (Shape.Idx.first (s := S1x1) (numel1_S1x1.symm ▸ Nat.one_pos) a).val = 0 := by
    revert a; decide
  rw [off15 k, h1]
  clear h1; revert a; exact Fin.cases rfl (fun i => by fin_cases i; rfl)

/-- The tenant word a trip reads. -/
theorem word_tenant (arg1 : Memref sig .tc .smem S5x22 .i32) (harg1 : arg1.IsWhole) (x0 : Vec F S5x22 .i32) (k : Fin k0_t2_loop.trips) :
    arg1.view.readAt (Elt F) (Rect.unit (s := S5x22) (k0_off17 k) S1x1.size (k0_off17_inb k)).toLoadRect (harg1.unread x0) (Shape.Idx.first (numel1_S1x1.symm ▸ Nat.one_pos))
      = x0 (ix2 (1 : Fin 5) (⟨k.val, trips2 ▸ k.isLt⟩ : Fin 22)) := by
  change arg1.view.read (Elt F) (harg1.unread x0) _ = _
  rw [harg1.read_unread]
  refine congrArg x0 ?_
  funext a; apply Fin.ext
  change (k0_off17 k) a + 1 * (Shape.Idx.first (s := S1x1) _ a).val = _
  have h1 : (Shape.Idx.first (s := S1x1) (numel1_S1x1.symm ▸ Nat.one_pos) a).val = 0 := by
    revert a; decide
  rw [off17 k, h1]
  clear h1; revert a; exact Fin.cases rfl (fun i => by fin_cases i; rfl)

/-- Window 0's index map is constant. -/
theorem index0 : ∀ t : Fin cfg0.N, win0_0.index t = ![0, 0] := (by decide +kernel : ∀ t : Fin grid0.N, _)

/-- Window 0's block is the whole table. -/
theorem iblk0 (c : Dev nD) (t : Fin cfg0.N) : iblk m c 0 t = m ((c : Thread nD τ).loc main_arg0) := by
  blk_ext! [iblk, V, index0 t]

theorem hw1 (hT : TabOK m) (c : Dev nD) (t : Fin cfg0.N) (arg1 : Memref sig .tc .smem S5x22 .i32) (harg1 : arg1.IsWhole) (kq : ℕ) (hkq : kq < k0_t2_loop.trips) :
    k0_chk1 (arg1.view.readAt (Elt F) (Rect.unit (s := S5x22) (k0_off15 ⟨kq, hkq⟩) S1x1.size (k0_off15_inb ⟨kq, hkq⟩)).toLoadRect (harg1.unread (iblk m c 0 t)) (Shape.Idx.first (numel1_S1x1.symm ▸ Nat.one_pos))) := by
  refine chk1_of_lt _ ?_
  have e := word_block (F := F) arg1 harg1 (iblk m c 0 t) ⟨kq, hkq⟩
  rw [e, iblk0]
  exact (hT c).block ⟨kq, trips2 ▸ hkq⟩

theorem hw2 (hT : TabOK m) (c : Dev nD) (t : Fin cfg0.N) (arg1 : Memref sig .tc .smem S5x22 .i32) (harg1 : arg1.IsWhole) (kq : ℕ) (hkq : kq < k0_t2_loop.trips) :
    k0_chk2 (arg1.view.readAt (Elt F) (Rect.unit (s := S5x22) (k0_off17 ⟨kq, hkq⟩) S1x1.size (k0_off17_inb ⟨kq, hkq⟩)).toLoadRect (harg1.unread (iblk m c 0 t)) (Shape.Idx.first (numel1_S1x1.symm ▸ Nat.one_pos))) := by
  refine chk2_of_lt _ ?_
  have e := word_tenant (F := F) arg1 harg1 (iblk m c 0 t) ⟨kq, hkq⟩
  rw [e, iblk0]
  exact (hT c).tenant ⟨kq, trips2 ▸ hkq⟩

/-! ## The staging memrefs -/

/-- Each window's current staging memref at point `t`, spelled as the pipeline passes it , and its wholeness. -/
abbrev ms0_0 (t : Fin cfg0.N) : Memref sig .tc .smem S5x22 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S22x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7x2x148x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S7x2x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7x3x32x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7x222x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S7x256x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The windows forgotten: the two outputs. -/
def forgets0 : Fin 11 → Bool := fun w => w.val == 9 || w.val == 10

/-- Window 7's staging buffer after a fetch at point `t` that found `d` in it: the block's part inside the array over `d`. -/
abbrev blk7 (c : Dev nD) (t : Fin cfg0.N) (d : (cfg0.win 7).block.Idx → Elt F (cfg0.win 7).elt) : (cfg0.win 7).block.Idx → Elt F (cfg0.win 7).elt :=
  (cfg0.win 7).fill (cfg0.grid.coords t) d (iblk m c 7 t)

/-- The proof data on core `c`: the arrays as the region finds them; after the body each input's buffer at its block (window 7's
    on the part inside the array), the outputs forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk7 m c t (fun _ => Classical.arbitrary _)
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = iblk m c 8 t := by dsimp only [dats]
theorem after0_7 (c : Dev nD) (t : Fin cfg0.N) : (dats m 0 c).after 7 t = blk7 m c t (fun _ => Classical.arbitrary _) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8 (c : Dev nD) (t : Fin cfg0.N) (d) : (dats m 0 c).before 8 t d = iblk m c 8 t :=
  before0_8_of m (dats m 0 c) (A_eq m c 8) (after0_8 m c) t d

/-- Window 7's cuts depend on its block index alone. -/
theorem clip7 (t t' : Fin cfg0.N) (h : (cfg0.win 7).index t = (cfg0.win 7).index t') :
    (cfg0.win 7).clip (cfg0.grid.coords t) = (cfg0.win 7).clip (cfg0.grid.coords t') := by
  funext a
  change Pipeline.Clip.of (win0_7.index t a) _ _ = Pipeline.Clip.of (win0_7.index t' a) _ _
  rw [show win0_7.index t = win0_7.index t' from h]

/-- Window 7's buffer holds its block's part inside the array at every point, fetched there or not. -/
theorem before0_7 (c : Dev nD) (t : Fin cfg0.N) (d) : (dats m 0 c).before 7 t d = blk7 m c t d :=
  (Dat.before_in_eq_fetched (dats m 0 c) 7 rfl (fun _ => rfl) clip7
    (fun t => by rw [after0_7]; exact (cfg0.win 7).cut_fill _ _ _) t d).trans rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((cfg0.win 7).fill (cfg0.grid.coords t) d ((cfg0.win 7).cut (cfg0.grid.coords t) ((dats m 0 c).after 7 t))))
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d))

/-- A memref owned at some contents is its elements at some buffer. -/
theorem owns_some {c : Dev nD} {sp : Space} {sh : Shape} {e : EltTy} (a : Memref sig .tc sp sh e) :
    (iprop(∃ d, owns (c : Thread nD τ) a fullShare d) : sProp 𝕄) ⊢ iprop(∃ f, a.view.loc (c : Thread nD τ) ↦[a.view.set]{fullShare} f) := by
  unfold owns
  iintro ⟨%d, %f, %e, H⟩
  iexists f
  iexact H

/-- and back. -/
theorem some_owns {c : Dev nD} {sp : Space} {sh : Shape} {e : EltTy} (a : Memref sig .tc sp sh e) (f : a.view.ty.Contents (Elt F)) :
    (a.view.loc (c : Thread nD τ) ↦[a.view.set]{fullShare} f : sProp 𝕄) ⊢ iprop(∃ d, owns (c : Thread nD τ) a fullShare d) := by
  unfold owns
  iintro H
  iexists _; iexists f
  isplitr
  · ipureintro; rfl
  iexact H

set_option maxHeartbeats 1200000 in
/-- The body at any point. -/
theorem sound_body (hT : TabOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq, (cfg0.win 7).cut_fill]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  icases (owns_some (ms0_9 t)) $$ H9 with ⟨%f9, H9⟩
  icases (owns_some (ms0_10 t)) $$ H10 with ⟨%f10, H10⟩
  icases (owns_some scM0_0) $$ HS0 with ⟨%fS, HS0⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f9 f10 fS
    (fun kq hkq => hw1 m hT c t _ _ kq hkq) (fun kq hkq => hw2 m hT c t _ _ kq hkq)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iapply (some_owns scM0_0 _) $$ HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]
  · iapply (some_owns (ms0_9 t) _) $$ H9
  iapply (some_owns (ms0_10 t) _) $$ H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (hT : TabOK m) (c : Dev nD) :
    BodyObligationLoose (dats (F := F) m 0 c) (defs₀ (F := F)) Variants.none () Set.univ forgets0 := fun t => by
  rw [bigSep_W0, bigSep_W0, defs₀_row]
  exact triple_restated (sound_body m hT c t) rfl .rfl fun _ => .rfl

/-! ## The run and the frame -/

set_option backward.isDefEq.respectTransparency.types false in
/-- The launch: every fair execution terminates, the input arrays unchanged, every semaphore counter at zero. -/
theorem run_main_quiescent (hT : TabOK m) : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m hT c) (hshare := fun c => (dats m 0 c).share_full fun _ => rfl)
    (howed := fun _ _ => rfl) (V := V m) (hmain := hmain m Variants.none) (hA := A_eq m) (hΦ := fun _ _ => rfl)

/-- The argument arrays end as launched, from a run to the forgetting frame post. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      (Pipeline.RDat.FramePost.arr_in h c 8 rfl).trans ((hA c 8).trans (V_main_arg8 m c))⟩) h

/-- The frame claim's statement at any float instance. -/
theorem frame (hT : TabOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of_forget m ρ (fun c => (dats m 0 c).toRForget forgets0) (A_eq m)
      ((θ_run defs _ _).mono (fun _ h => h.1) (run_main_quiescent m ρ hT)))
    ((θ_run defs _ _).mono (fun _ h => h.2) (run_main_quiescent m ρ hT))

end Cert.Kernel.Hand

end
-- ==== Proof.KernelIdeal.Run.lean ====
/- The kernel body of `proofs.«01_k».proof.KernelIdeal`, run once over any whole staging buffers. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the scratch holds after the first loop: the pieces of its seven trips over what it held. -/
abbrev scr (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (f12 : BufTy.Contents (Elt F) arg12.view.ty) : BufTy.Contents (Elt F) arg12.view.ty :=
  arg12.view.writes (Elt F) f12 (pb_k0_t1 (F := F) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) (iota .tc S1x128 32 [1] iota_S1x128_d1_w32) (harg6.unread x5) (harg7.unread x6) (harg8.unread x7) (harg9.unread x8) k0_t1_loop.trips)

/-- What the second output's buffer holds after the slot loop: the pieces of its trips over what it held, the products
    reading the scratch contents `g12`. -/
abbrev acc (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (g12 : BufTy.Contents (Elt F) arg12.view.ty) (f11 : BufTy.Contents (Elt F) arg11.view.ty)
    (hw1 : ∀ (kq : ℕ) (hkq : kq < k0_t2_loop.trips), k0_chk1 (arg1.view.readAt (Elt F) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt F) (Rect.unit (s := S5x22) (k0_off17 ⟨kq, hkq⟩) S1x1.size (k0_off17_inb ⟨kq, hkq⟩)).toLoadRect (harg1.unread x0) (Shape.Idx.first (numel1_S1x1.symm ▸ Nat.one_pos)))) : BufTy.Contents (Elt F) arg11.view.ty :=
  arg11.view.writes (Elt F) f11 (pb_k0_t2 (F := F) Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 f11 hw1 hw2 k0_t2_loop.trips)

/-- What the first output's buffer holds after the last loop: the pieces of its eight trips over what it held, reading
    the second output's contents `g11`. -/
abbrev fin (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (g11 : BufTy.Contents (Elt F) arg11.view.ty) (f10 : BufTy.Contents (Elt F) arg10.view.ty) : BufTy.Contents (Elt F) arg10.view.ty :=
  arg10.view.writes (Elt F) f10 (pb_k0_t3 (F := F) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 k0_t3_loop.trips)

set_option maxHeartbeats 1000000 in
/-- The body's triple: on whole staging buffers, the inputs' at their contents and the outputs' and the scratch at anything,
    the body runs to the continuation holding the inputs' as they were and the other three at the pieces the loops wrote. The
    two side conditions the slot loop assumes are hypotheses. -/
theorem kernelRun (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole)
    (x0 : Vec F S5x22 .i32) (x1 : Vec F S2048x3584 .bf16) (x2 : Vec F S3584x512 .fp8e4m3) (x3 : Vec F S1x512 .f32) (x4 : Vec F S22x128x256 .bf16) (x5 : Vec F S7x2x148x128 .i32) (x6 : Vec F S7x2x512 .i8) (x7 : Vec F S7x3x32x128 .i8) (x8 : Vec F S7x222x128 .i8) (f10 : BufTy.Contents (Elt F) arg10.view.ty) (f11 : BufTy.Contents (Elt F) arg11.view.ty) (f12 : BufTy.Contents (Elt F) arg12.view.ty)
    (hw1 : ∀ (kq : ℕ) (hkq : kq < k0_t2_loop.trips), k0_chk1 (arg1.view.readAt (Elt F) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt F) (Rect.unit (s := S5x22) (k0_off17 ⟨kq, hkq⟩) S1x1.size (k0_off17_inb ⟨kq, hkq⟩)).toLoadRect (harg1.unread x0) (Shape.Idx.first (numel1_S1x1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (arg10.view.loc (c : Thread nD τ) ↦[arg10.view.set]{fullShare} fin c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (acc c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12) f11 hw1 hw2) f10)
                ∗ (arg11.view.loc (c : Thread nD τ) ↦[arg11.view.set]{fullShare} acc c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 (scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12) f11 hw1 hw2)
                ∗ (arg12.view.loc (c : Thread nD τ) ↦[arg12.view.set]{fullShare} scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12)) -∗ K ⟨⟩))
          ⊢ wp frame (wpE (defs₀ (F := F)) Variants.none c none) E (cc0_main i arg1 harg1 arg2 harg2 arg3 harg3 arg4 harg4 arg5 harg5 arg6 harg6 arg7 harg7 arg8 harg8 arg9 harg9 arg10 harg10 arg11 harg11 arg12 harg12) K := by
    intro E K
    simp only [cc0_main_eq_skeleton]; unfold cc0_main_skel
    unfold owns
    iintro ⟨⟨%g1, %hf1, H1⟩, ⟨%g2, %hf2, H2⟩, ⟨%g3, %hf3, H3⟩, ⟨%g4, %hf4, H4⟩, ⟨%g5, %hf5, H5⟩, ⟨%g6, %hf6, H6⟩, ⟨%g7, %hf7, H7⟩, ⟨%g8, %hf8, H8⟩, ⟨%g9, %hf9, H9⟩, H10, H11, H12, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexact H10
    isplitl [H11]; · iexact H11
    iexact H12

end Cert.KernelIdeal.Hand

end
-- ==== Proof.KernelIdeal.Frame.lean ====
/- The frame of `proofs.«01_k».proof.KernelIdeal` on a table the precondition admits: the proof data of the pipeline with both outputs
   forgotten, the body obligation, the run, the arguments unchanged and every semaphore at zero. -/
module

public import proofs.«01_k».proof.Proof.KernelIdeal.Run
public import proofs.«01_k».proof.Proof.Tab
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table's words and the two side conditions -/

/-- Every device's table is one the kernel accepts. -/
def TabOK : Prop := ∀ c : Dev nD, Cert.Tab.OK (show IVec (⟨2, ![5, 22]⟩ : Shape) 32 from m ((c : Thread nD τ).loc main_arg0))

theorem trips2 : k0_t2_loop.trips = 22 := by decide +kernel
theorem off15 : ∀ k : Fin k0_t2_loop.trips, k0_off15 k = ![0, k.val] := by decide +kernel
theorem off17 : ∀ k : Fin k0_t2_loop.trips, k0_off17 k = ![1, k.val] := by decide +kernel
theorem chk1_of : ∀ n : Fin 16, k0_chk1 (BitVec.ofNat 32 n.val) := by decide +kernel
theorem chk2_of : ∀ n : Fin 7, k0_chk2 (BitVec.ofNat 32 n.val) := by decide +kernel

/-- A word below sixteen meets the first side condition. -/
theorem chk1_of_lt (w : BitVec 32) (h : w.toNat < 16) : k0_chk1 w := by
  have := chk1_of ⟨w.toNat, h⟩
  rwa [BitVec.ofNat_toNat, BitVec.setWidth_eq] at this

/-- A word below seven meets the second. -/
theorem chk2_of_lt (w : BitVec 32) (h : w.toNat < 7) : k0_chk2 w := by
  have := chk2_of ⟨w.toNat, h⟩
  rwa [BitVec.ofNat_toNat, BitVec.setWidth_eq] at this

/-- The block word a trip of the slot loop reads off a table buffer. -/
theorem word_block (arg1 : Memref sig .tc .smem S5x22 .i32) (harg1 : arg1.IsWhole) (x0 : Vec F S5x22 .i32) (k : Fin k0_t2_loop.trips) :
    arg1.view.readAt (Elt F) (Rect.unit (s := S5x22) (k0_off15 k) S1x1.size (k0_off15_inb k)).toLoadRect (harg1.unread x0) (Shape.Idx.first (numel1_S1x1.symm ▸ Nat.one_pos))
      = x0 (ix2 (0 : Fin 5) (⟨k.val, trips2 ▸ k.isLt⟩ : Fin 22)) := by
  change arg1.view.read (Elt F) (harg1.unread x0) _ = _
  rw [harg1.read_unread]
  refine congrArg x0 ?_
  funext a; apply Fin.ext
  change (k0_off15 k) a + 1 * (Shape.Idx.first (s := S1x1) _ a).val = _
  have h1 : (Shape.Idx.first (s := S1x1) (numel1_S1x1.symm ▸ Nat.one_pos) a).val = 0 := by
    revert a; decide
  rw [off15 k, h1]
  clear h1; revert a; exact Fin.cases rfl (fun i => by fin_cases i; rfl)

/-- The tenant word a trip reads. -/
theorem word_tenant (arg1 : Memref sig .tc .smem S5x22 .i32) (harg1 : arg1.IsWhole) (x0 : Vec F S5x22 .i32) (k : Fin k0_t2_loop.trips) :
    arg1.view.readAt (Elt F) (Rect.unit (s := S5x22) (k0_off17 k) S1x1.size (k0_off17_inb k)).toLoadRect (harg1.unread x0) (Shape.Idx.first (numel1_S1x1.symm ▸ Nat.one_pos))
      = x0 (ix2 (1 : Fin 5) (⟨k.val, trips2 ▸ k.isLt⟩ : Fin 22)) := by
  change arg1.view.read (Elt F) (harg1.unread x0) _ = _
  rw [harg1.read_unread]
  refine congrArg x0 ?_
  funext a; apply Fin.ext
  change (k0_off17 k) a + 1 * (Shape.Idx.first (s := S1x1) _ a).val = _
  have h1 : (Shape.Idx.first (s := S1x1) (numel1_S1x1.symm ▸ Nat.one_pos) a).val = 0 := by
    revert a; decide
  rw [off17 k, h1]
  clear h1; revert a; exact Fin.cases rfl (fun i => by fin_cases i; rfl)

/-- Window 0's index map is constant. -/
theorem index0 : ∀ t : Fin cfg0.N, win0_0.index t = ![0, 0] := (by decide +kernel : ∀ t : Fin grid0.N, _)

/-- Window 0's block is the whole table. -/
theorem iblk0 (c : Dev nD) (t : Fin cfg0.N) : iblk m c 0 t = m ((c : Thread nD τ).loc main_arg0) := by
  blk_ext! [iblk, V, index0 t]

theorem hw1 (hT : TabOK m) (c : Dev nD) (t : Fin cfg0.N) (arg1 : Memref sig .tc .smem S5x22 .i32) (harg1 : arg1.IsWhole) (kq : ℕ) (hkq : kq < k0_t2_loop.trips) :
    k0_chk1 (arg1.view.readAt (Elt F) (Rect.unit (s := S5x22) (k0_off15 ⟨kq, hkq⟩) S1x1.size (k0_off15_inb ⟨kq, hkq⟩)).toLoadRect (harg1.unread (iblk m c 0 t)) (Shape.Idx.first (numel1_S1x1.symm ▸ Nat.one_pos))) := by
  refine chk1_of_lt _ ?_
  have e := word_block (F := F) arg1 harg1 (iblk m c 0 t) ⟨kq, hkq⟩
  rw [e, iblk0]
  exact (hT c).block ⟨kq, trips2 ▸ hkq⟩

theorem hw2 (hT : TabOK m) (c : Dev nD) (t : Fin cfg0.N) (arg1 : Memref sig .tc .smem S5x22 .i32) (harg1 : arg1.IsWhole) (kq : ℕ) (hkq : kq < k0_t2_loop.trips) :
    k0_chk2 (arg1.view.readAt (Elt F) (Rect.unit (s := S5x22) (k0_off17 ⟨kq, hkq⟩) S1x1.size (k0_off17_inb ⟨kq, hkq⟩)).toLoadRect (harg1.unread (iblk m c 0 t)) (Shape.Idx.first (numel1_S1x1.symm ▸ Nat.one_pos))) := by
  refine chk2_of_lt _ ?_
  have e := word_tenant (F := F) arg1 harg1 (iblk m c 0 t) ⟨kq, hkq⟩
  rw [e, iblk0]
  exact (hT c).tenant ⟨kq, trips2 ▸ hkq⟩

/-! ## The staging memrefs -/

/-- Each window's current staging memref at point `t`, spelled as the pipeline passes it , and its wholeness. -/
abbrev ms0_0 (t : Fin cfg0.N) : Memref sig .tc .smem S5x22 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S22x128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S7x2x148x128 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S7x2x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S7x3x32x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S7x222x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S7x256x512 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The pipeline's proof data -/

/-- The windows forgotten: the two outputs. -/
def forgets0 : Fin 11 → Bool := fun w => w.val == 9 || w.val == 10

/-- Window 7's staging buffer after a fetch at point `t` that found `d` in it: the block's part inside the array over `d`. -/
abbrev blk7 (c : Dev nD) (t : Fin cfg0.N) (d : (cfg0.win 7).block.Idx → Elt F (cfg0.win 7).elt) : (cfg0.win 7).block.Idx → Elt F (cfg0.win 7).elt :=
  (cfg0.win 7).fill (cfg0.grid.coords t) d (iblk m c 7 t)

/-- The proof data on core `c`: the arrays as the region finds them; after the body each input's buffer at its block (window 7's
    on the part inside the array), the outputs forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk7 m c t (fun _ => Classical.arbitrary _)
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = iblk m c 8 t := by dsimp only [dats]
theorem after0_7 (c : Dev nD) (t : Fin cfg0.N) : (dats m 0 c).after 7 t = blk7 m c t (fun _ => Classical.arbitrary _) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8 (c : Dev nD) (t : Fin cfg0.N) (d) : (dats m 0 c).before 8 t d = iblk m c 8 t :=
  before0_8_of m (dats m 0 c) (A_eq m c 8) (after0_8 m c) t d

/-- Window 7's cuts depend on its block index alone. -/
theorem clip7 (t t' : Fin cfg0.N) (h : (cfg0.win 7).index t = (cfg0.win 7).index t') :
    (cfg0.win 7).clip (cfg0.grid.coords t) = (cfg0.win 7).clip (cfg0.grid.coords t') := by
  funext a
  change Pipeline.Clip.of (win0_7.index t a) _ _ = Pipeline.Clip.of (win0_7.index t' a) _ _
  rw [show win0_7.index t = win0_7.index t' from h]

/-- Window 7's buffer holds its block's part inside the array at every point, fetched there or not. -/
theorem before0_7 (c : Dev nD) (t : Fin cfg0.N) (d) : (dats m 0 c).before 7 t d = blk7 m c t d :=
  (Dat.before_in_eq_fetched (dats m 0 c) 7 rfl (fun _ => rfl) clip7
    (fun t => by rw [after0_7]; exact (cfg0.win 7).cut_fill _ _ _) t d).trans rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((cfg0.win 7).fill (cfg0.grid.coords t) d ((cfg0.win 7).cut (cfg0.grid.coords t) ((dats m 0 c).after 7 t))))
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d))

/-- A memref owned at some contents is its elements at some buffer. -/
theorem owns_some {c : Dev nD} {sp : Space} {sh : Shape} {e : EltTy} (a : Memref sig .tc sp sh e) :
    (iprop(∃ d, owns (c : Thread nD τ) a fullShare d) : sProp 𝕄) ⊢ iprop(∃ f, a.view.loc (c : Thread nD τ) ↦[a.view.set]{fullShare} f) := by
  unfold owns
  iintro ⟨%d, %f, %e, H⟩
  iexists f
  iexact H

/-- and back. -/
theorem some_owns {c : Dev nD} {sp : Space} {sh : Shape} {e : EltTy} (a : Memref sig .tc sp sh e) (f : a.view.ty.Contents (Elt F)) :
    (a.view.loc (c : Thread nD τ) ↦[a.view.set]{fullShare} f : sProp 𝕄) ⊢ iprop(∃ d, owns (c : Thread nD τ) a fullShare d) := by
  unfold owns
  iintro H
  iexists _; iexists f
  isplitr
  · ipureintro; rfl
  iexact H

set_option maxHeartbeats 1200000 in
/-- The body at any point. -/
theorem sound_body (hT : TabOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq, (cfg0.win 7).cut_fill]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  icases (owns_some (ms0_9 t)) $$ H9 with ⟨%f9, H9⟩
  icases (owns_some (ms0_10 t)) $$ H10 with ⟨%f10, H10⟩
  icases (owns_some scM0_0) $$ HS0 with ⟨%fS, HS0⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f9 f10 fS
    (fun kq hkq => hw1 m hT c t _ _ kq hkq) (fun kq hkq => hw2 m hT c t _ _ kq hkq)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iapply (some_owns scM0_0 _) $$ HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]
  · iapply (some_owns (ms0_9 t) _) $$ H9
  iapply (some_owns (ms0_10 t) _) $$ H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (hT : TabOK m) (c : Dev nD) :
    BodyObligationLoose (dats (F := F) m 0 c) (defs₀ (F := F)) Variants.none () Set.univ forgets0 := fun t => by
  rw [bigSep_W0, bigSep_W0, defs₀_row]
  exact triple_restated (sound_body m hT c t) rfl .rfl fun _ => .rfl

/-! ## The run and the frame -/

set_option backward.isDefEq.respectTransparency.types false in
/-- The launch: every fair execution terminates, the input arrays unchanged, every semaphore counter at zero. -/
theorem run_main_quiescent (hT : TabOK m) : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => body_obligation m hT c) (hshare := fun c => (dats m 0 c).share_full fun _ => rfl)
    (howed := fun _ _ => rfl) (V := V m) (hmain := hmain m Variants.none) (hA := A_eq m) (hΦ := fun _ _ => rfl)

/-- The argument arrays end as launched, from a run to the forgetting frame post. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c),
      (Pipeline.RDat.FramePost.arr_in h c 8 rfl).trans ((hA c 8).trans (V_main_arg8 m c))⟩) h

/-- The frame claim's statement at any float instance. -/
theorem frame (hT : TabOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of_forget m ρ (fun c => (dats m 0 c).toRForget forgets0) (A_eq m)
      ((θ_run defs _ _).mono (fun _ h => h.1) (run_main_quiescent m ρ hT)))
    ((θ_run defs _ _).mono (fun _ h => h.2) (run_main_quiescent m ρ hT))

end Cert.KernelIdeal.Hand

end
-- ==== Proof.Spec.lean ====
/- The two results as sums over the operands' entries: what both programs are shown to compute. -/
module

public import Idealize.ShloMosaic.Lib.Pipeline.ValueKit
public import Idealize.ShloMosaic.Lib.Pointwise
public import Idealize.ShloMosaic.PureOps.Ideal

@[expose] public section

set_option maxRecDepth 16384

noncomputable section

namespace Cert.Spec

open Idealize.ShloMosaic

/-- The code a byte of four two-bit codes holds at place `k`. -/
def loC (b : BitVec 8) (k : ℕ) : BitVec 32 :=
  IntOp.andi (IntOp.shrsi .host (b.setWidth 32) (BitVec.ofNat 32 (2 * k))) 3#32

/-- The code three bytes of eight three-bit codes hold at place `k`. -/
def midC (b0 b1 b2 : BitVec 8) (k : ℕ) : BitVec 32 :=
  IntOp.andi
    (IntOp.shrsi .host
      (IntOp.ori (IntOp.ori (b0.setWidth 32) (IntOp.shli .host (b1.setWidth 32) 8#32))
        (IntOp.shli .host (b2.setWidth 32) 16#32))
      (BitVec.ofNat 32 (3 * k)))
    7#32

/-- The code of row `i`, column `o` of tenant `n`'s factor: rows below 222 are two-bit codes, the next two are bytes, the
    last 32 three-bit codes. -/
def code (uhi : IVec ⟨3, ![7, 2, 18944]⟩ 8) (umid : IVec ⟨4, ![7, 32, 2368, 3]⟩ 8) (ulo : IVec ⟨3, ![7, 222, 4736]⟩ 8)
    (n : Fin 7) (i : Fin 256) (o : Fin 18944) : BitVec 32 :=
  if h : i.val < 222 then loC (ulo (ix3 n ⟨i.val, h⟩ ⟨o.val / 4, by omega⟩)) (o.val % 4)
  else if h' : i.val - 222 < 2 then (uhi (ix3 n ⟨i.val - 222, h'⟩ o)).setWidth 32
  else midC (umid (ix4 n ⟨i.val - 222 - 2, by omega⟩ ⟨o.val / 8, by omega⟩ 0))
    (umid (ix4 n ⟨i.val - 222 - 2, by omega⟩ ⟨o.val / 8, by omega⟩ 1))
    (umid (ix4 n ⟨i.val - 222 - 2, by omega⟩ ⟨o.val / 8, by omega⟩ 2)) (o.val % 8)

/-- A code `c` decoded with the word `w` of its group: the zero point is the word's low byte, the scale the number its high
    half is the bits of. -/
def elem (c w : BitVec 32) : EReal :=
  ((FloatOps.sitofp (F := Ideal) .f32 c : EReal) - (FloatOps.sitofp (F := Ideal) .f32 (IntOp.andi w 255#32) : EReal))
    * (Ideal.ofBits .f32 (IntOp.andi w 4294901760#32) : EReal)

/-- The decoded factor. -/
def U (usz : IVec ⟨4, ![7, 2, 148, 128]⟩ 32) (uhi : IVec ⟨3, ![7, 2, 18944]⟩ 8) (umid : IVec ⟨4, ![7, 32, 2368, 3]⟩ 8)
    (ulo : IVec ⟨3, ![7, 222, 4736]⟩ 8) (n : Fin 7) (i : Fin 256) (o : Fin 18944) : EReal :=
  elem (code uhi umid ulo n i o) (usz (ix4 n ⟨i.val / 128, by omega⟩ ⟨o.val / 128, by omega⟩ ⟨i.val % 128, by omega⟩))

/-- Slot `s`'s product at row `r` of its block: the slot's coefficients by the factor of the slot's tenant. -/
def P (tab : IVec ⟨2, ![5, 22]⟩ 32) (gslot : FVec Ideal ⟨3, ![22, 128, 256]⟩ .bf16)
    (u : Fin 7 → Fin 256 → Fin 18944 → EReal) (s : Fin 22) (r : Fin 128) (o : Fin 18944) : EReal :=
  ∑ k : Fin 256, (gslot (ix3 s r k) : EReal) * u ⟨(tab (ix2 1 s)).toNat % 7, by omega⟩ k o

/-- The second result: row `r` sums the products of the slots whose block holds the row. -/
def GD (tab : IVec ⟨2, ![5, 22]⟩ 32) (gslot : FVec Ideal ⟨3, ![22, 128, 256]⟩ .bf16)
    (u : Fin 7 → Fin 256 → Fin 18944 → EReal) (r : Fin 2048) (o : Fin 18944) : EReal :=
  ∑ s : Fin 22, if (tab (ix2 0 s)).toNat = r.val / 128 then P tab gslot u s ⟨r.val % 128, by omega⟩ o else 0

/-- The first result: the base product by its column's scale, and the second result. -/
def GY (x : FVec Ideal ⟨2, ![2048, 3584]⟩ .bf16) (w : FVec Ideal ⟨2, ![3584, 18944]⟩ .fp8e4m3)
    (bs : FVec Ideal ⟨1, ![18944]⟩ .f32) (d : Fin 2048 → Fin 18944 → EReal) (r : Fin 2048) (o : Fin 18944) : EReal :=
  (∑ k : Fin 3584, (x (ix2 r k) : EReal) * (w (ix2 k o) : EReal)) * (bs (ix1 o) : EReal) + d r o

/-- The second result as an array. -/
def YD (tab : IVec ⟨2, ![5, 22]⟩ 32) (gslot : FVec Ideal ⟨3, ![22, 128, 256]⟩ .bf16) (usz : IVec ⟨4, ![7, 2, 148, 128]⟩ 32)
    (uhi : IVec ⟨3, ![7, 2, 18944]⟩ 8) (umid : IVec ⟨4, ![7, 32, 2368, 3]⟩ 8) (ulo : IVec ⟨3, ![7, 222, 4736]⟩ 8) :
    FVec Ideal ⟨2, ![2048, 18944]⟩ .f32 :=
  fun i => (GD tab gslot (U usz uhi umid ulo) (i 0) (i 1) : EReal)

/-- The first result as an array. -/
def Y (tab : IVec ⟨2, ![5, 22]⟩ 32) (x : FVec Ideal ⟨2, ![2048, 3584]⟩ .bf16) (w : FVec Ideal ⟨2, ![3584, 18944]⟩ .fp8e4m3)
    (bs : FVec Ideal ⟨1, ![18944]⟩ .f32) (gslot : FVec Ideal ⟨3, ![22, 128, 256]⟩ .bf16) (usz : IVec ⟨4, ![7, 2, 148, 128]⟩ 32)
    (uhi : IVec ⟨3, ![7, 2, 18944]⟩ 8) (umid : IVec ⟨4, ![7, 32, 2368, 3]⟩ 8) (ulo : IVec ⟨3, ![7, 222, 4736]⟩ 8) :
    FVec Ideal ⟨2, ![2048, 18944]⟩ .bf16 :=
  fun i => (GY x w bs (GD tab gslot (U usz uhi umid ulo)) (i 0) (i 1) : EReal)

/-- A code lies between 0 and 255. -/
theorem code_lt (uhi umid ulo) (n : Fin 7) (i : Fin 256) (o : Fin 18944) : (code uhi umid ulo n i o).toNat < 256 := by
  have and_lt : ∀ a : BitVec 32, ∀ b : BitVec 32, b.toNat < 256 → (IntOp.andi a b).toNat < 256 := fun a b hb => by
    show (a &&& b).toNat < 256
    rw [BitVec.toNat_and]
    exact lt_of_le_of_lt Nat.and_le_right hb
  unfold code
  split_ifs
  · exact and_lt _ _ (by decide)
  · rw [BitVec.toNat_setWidth]
    have := (uhi (ix3 n ⟨i.val - 222, by assumption⟩ o)).isLt
    omega
  · exact and_lt _ _ (by decide)

/-- The difference of two words below 256 converts to the difference of their conversions. -/
theorem sub_conv (c z : BitVec 32) (hc : c.toNat < 256) (hz : z.toNat < 256) (φ : FTy) :
    (FloatOps.sitofp (F := Ideal) φ (IntOp.subi c z) : EReal)
      = (FloatOps.sitofp (F := Ideal) .f32 c : EReal) - (FloatOps.sitofp (F := Ideal) .f32 z : EReal) := by
  have e : (IntOp.subi c z).toInt = c.toInt - z.toInt := by
    show (c - z).toInt = _
    rw [BitVec.toInt_sub, BitVec.toInt_eq_toNat_of_lt (by omega : 2 * c.toNat < 2 ^ 32),
      BitVec.toInt_eq_toNat_of_lt (by omega : 2 * z.toNat < 2 ^ 32)]
    exact Int.bmod_eq_of_le (by omega) (by omega)
  show (((IntOp.subi c z).toInt : ℝ) : EReal) = ((c.toInt : ℝ) : EReal) - ((z.toInt : ℝ) : EReal)
  rw [e, Int.cast_sub, EReal.coe_sub]

/-- The low byte of a word is below 256. -/
theorem and255_lt (w : BitVec 32) : (IntOp.andi w 255#32).toNat < 256 := by
  show (w &&& 255#32).toNat < 256
  rw [BitVec.toNat_and]
  exact lt_of_le_of_lt Nat.and_le_right (by decide)

end Cert.Spec

end
-- ==== Proof.KernelIdeal.Payload.lean ====
/- What the kernel stores, entry by entry: the four tiles of one trip of the decoding loop, one trip of the slot loop, one trip of
   the chunk loop. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Spec

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The lane numbers, as the kernel makes them. -/
abbrev lanes : IVec S1x128 32 := iota .tc S1x128 32 [1] iota_S1x128_d1_w32

/-- A two-bit code read off the lane `a` of a row of bytes, shifted by the word `s`. -/
theorem lo_glue (f : Fin 128 → BitVec 8) (a b : Fin 128) (k : ℕ) (s : BitVec 32) (hk : k < 4) (ha : a.val = b.val)
    (hs : s = BitVec.ofNat 32 (2 * k)) :
    IntOp.andi (IntOp.shrsi .vector ((f a).setWidth 32) s) 3#32 = Spec.loC (f b) k := by
  obtain rfl : a = b := Fin.ext ha
  subst hs
  unfold Spec.loC IntOp.shrsi
  have : (BitVec.ofNat 32 (2 * k)).toNat < 32 := by rw [BitVec.toNat_ofNat, Nat.mod_eq_of_lt (by omega)]; omega
  rw [if_pos this, if_pos this]

/-- A three-bit code read off the lanes of three rows of bytes, shifted by the word `s`. -/
theorem mid_glue (f g h : Fin 128 → BitVec 8) (a a' a'' b : Fin 128) (k : ℕ) (s : BitVec 32) (hk : k < 8) (ha : a.val = b.val)
    (ha' : a'.val = b.val) (ha'' : a''.val = b.val) (hs : s = BitVec.ofNat 32 (3 * k)) :
    IntOp.andi
        (IntOp.shrsi .vector
          (IntOp.ori (IntOp.ori ((f a).setWidth 32) (IntOp.shli .vector ((g a').setWidth 32) 8#32))
            (IntOp.shli .vector ((h a'').setWidth 32) 16#32)) s) 7#32
      = Spec.midC (f b) (g b) (h b) k := by
  obtain rfl : a = b := Fin.ext ha
  obtain rfl : a' = a := Fin.ext ha'
  obtain rfl : a'' = a' := Fin.ext ha''
  subst hs
  unfold Spec.midC IntOp.shrsi IntOp.shli
  have : (BitVec.ofNat 32 (3 * k)).toNat < 32 := by rw [BitVec.toNat_ofNat, Nat.mod_eq_of_lt (by omega)]; omega
  have h8 : (8#32 : BitVec 32).toNat < 32 := by decide
  have h16 : (16#32 : BitVec 32).toNat < 32 := by decide
  simp only [if_pos this, if_pos h8, if_pos h16]

/-- The code a tile's entry decodes: tile `q` of the four takes its two-bit codes from lanes `32 * q` on of its rows of bytes, its
    three-bit codes from lanes `64 * p + 16 * q` on, `p` the parity of the grid point. -/
def tcode (lo : IVec S1x222x128 8) (m0 m1 m2 : IVec S1x1x32x128 8) (hi : IVec S1x2x128 8) (p : Fin 2) (q : Fin 4) (i : Fin 256)
    (l : Fin 128) : BitVec 32 :=
  if h : i.val < 222 then Spec.loC (lo (ix3 0 ⟨i.val, h⟩ ⟨32 * q.val + l.val / 4, by omega⟩)) (l.val % 4)
  else if h' : i.val - 222 < 2 then (hi (ix3 0 ⟨i.val - 222, h'⟩ l)).setWidth 32
  else Spec.midC (m0 (ix4 0 0 ⟨i.val - 222 - 2, by omega⟩ ⟨64 * p.val + 16 * q.val + l.val / 8, by omega⟩))
    (m1 (ix4 0 0 ⟨i.val - 222 - 2, by omega⟩ ⟨64 * p.val + 16 * q.val + l.val / 8, by omega⟩))
    (m2 (ix4 0 0 ⟨i.val - 222 - 2, by omega⟩ ⟨64 * p.val + 16 * q.val + l.val / 8, by omega⟩)) (l.val % 8)

/-- The word a tile's row is decoded with. -/
def tword (d e : IVec S1x1x1x128 32) (i : Fin 256) : BitVec 32 :=
  if h : i.val < 128 then d (ix4 0 0 0 ⟨i.val, h⟩) else e (ix4 0 0 0 ⟨i.val - 128, by omega⟩)

/-- The lanes a tile's two-bit codes come from, `c` the first of them. -/
def loIx (c : BitVec 32) : IVec S222x128 32 :=
  broadcastTo S222x128 (shapeCast S1x128 (addi (broadcast S1x128 c) (shrsi lanes (broadcast S1x128 2#32))) shapeCasts_S1x128_S1x128)
    broadcasts_S1x128_S222x128

/-- The lanes a tile's three-bit codes come from, `c` the first of them. -/
def midIx (c : BitVec 32) : IVec S32x128 32 :=
  broadcastTo S32x128 (shapeCast S1x128 (addi (broadcast S1x128 c) (shrsi lanes (broadcast S1x128 3#32))) shapeCasts_S1x128_S1x128)
    broadcasts_S1x128_S32x128

/-- The rows `v` with their lanes taken where `x` says. -/
def pick (v x : IVec S32x128 32) : IVec S32x128 32 :=
  dynamicGather 1 v (shapeCast S32x128 (shapeCast S32x128x1
    (select (cmpi .slt x (broadcast S32x128 0#32)) (addi x (broadcast S32x128 128#32)) x) shapeCasts_S32x128_S32x128x1)
    shapeCasts_S32x128x1_S32x128)

/-- The three-bit codes of a tile, from three rows of bytes with their lanes taken where `x` says. -/
def midVec (a b c x : IVec S32x128 32) : IVec S32x128 32 :=
  andi (shrsi (ori (ori (pick a x) (shli (pick b x) (broadcast S32x128 8#32))) (shli (pick c x) (broadcast S32x128 16#32)))
    (broadcastTo S32x128 (muli (broadcast S1x128 3#32) (andi lanes (broadcast S1x128 7#32))) broadcasts_S1x128_S32x128))
    (broadcast S32x128 7#32)

theorem loIx_at (c : BitVec 32) (i : Fin 222) (l : Fin 128) :
    loIx c (ix2 i l) = IntOp.addi c (IntOp.shrsi .vector (BitVec.ofNat 32 l.val) 2#32) := by
  pointwise [loIx]

theorem midIx_at (c : BitVec 32) (i : Fin 32) (l : Fin 128) :
    midIx c (ix2 i l) = IntOp.addi c (IntOp.shrsi .vector (BitVec.ofNat 32 l.val) 3#32) := by
  pointwise [midIx]

theorem pick_at (v x : IVec S32x128 32) (i : Fin 32) (l : Fin 128) (a : Fin 128) (h : x (ix2 i l) = BitVec.ofNat 32 a.val) :
    pick v x (ix2 i l) = v (ix2 i a) := by
  pointwise [pick]
  refine congrArg v (congrArg (ix2 i) (Fin.ext ?_))
  dsimp only
  rw [h]
  clear h
  revert a
  decide +kernel

theorem lo_at (v x : IVec S222x128 32) (i : Fin 222) (l : Fin 128) (a : Fin 128) (h : x (ix2 i l) = BitVec.ofNat 32 a.val) :
    k0_pay12 lanes v x (ix2 i l)
      = IntOp.andi (IntOp.shrsi .vector (v (ix2 i a)) (IntOp.muli 2#32 (IntOp.andi (BitVec.ofNat 32 l.val) 3#32))) 3#32 := by
  pointwise [k0_pay12]
  refine congrArg (fun z => IntOp.andi (IntOp.shrsi .vector (v (ix2 i z)) _) _) (Fin.ext ?_)
  dsimp only
  rw [h]
  clear h
  revert a
  decide +kernel

theorem mid_at (a b c x : IVec S32x128 32) (i : Fin 32) (l : Fin 128) (u : Fin 128) (h : x (ix2 i l) = BitVec.ofNat 32 u.val) :
    midVec a b c x (ix2 i l)
      = IntOp.andi (IntOp.shrsi .vector
          (IntOp.ori (IntOp.ori (a (ix2 i u)) (IntOp.shli .vector (b (ix2 i u)) 8#32)) (IntOp.shli .vector (c (ix2 i u)) 16#32))
          (IntOp.muli 3#32 (IntOp.andi (BitVec.ofNat 32 l.val) 7#32))) 7#32 := by
  have e : ∀ v, pick v x (ix2 i l) = v (ix2 i u) := fun v => pick_at v x i l u h
  rw [← e a, ← e b, ← e c]
  pointwise [midVec]

theorem pay4_at (lo : Vec Ideal S1x222x128 .i8) (i : Fin 222) (l : Fin 128) :
    k0_pay4 (F := Ideal) lo (ix2 i l) = ((lo : IVec S1x222x128 8) (ix3 0 i l)).setWidth 32 := by
  pointwise [k0_pay4]

theorem pay5_at (m : Vec Ideal S1x1x32x128 .i8) (i : Fin 32) (l : Fin 128) :
    k0_pay5 (F := Ideal) m (ix2 i l) = ((m : IVec S1x1x32x128 8) (ix4 0 0 i l)).setWidth 32 := by
  pointwise [k0_pay5]

theorem pay6_at (m : Vec Ideal S1x1x32x128 .i8) (i : Fin 32) (l : Fin 128) :
    k0_pay6 (F := Ideal) m (ix2 i l) = ((m : IVec S1x1x32x128 8) (ix4 0 0 i l)).setWidth 32 := by
  pointwise [k0_pay6]

theorem pay7_at (m : Vec Ideal S1x1x32x128 .i8) (i : Fin 32) (l : Fin 128) :
    k0_pay7 (F := Ideal) m (ix2 i l) = ((m : IVec S1x1x32x128 8) (ix4 0 0 i l)).setWidth 32 := by
  pointwise [k0_pay7]

/-- A tile over code vectors. -/
theorem pay10_at (a : IVec S222x128 32) (b : IVec S32x128 32) (hi : Vec Ideal S1x2x128 .i8) (d e : Vec Ideal S1x1x1x128 .i32) (i : Fin 256)
    (l : Fin 128) :
    k0_pay10 (F := Ideal) a b hi d e (ix3 (0 : Fin 1) i l)
      = Spec.elem (if h : i.val < 222 then a (ix2 ⟨i.val, h⟩ l)
          else if h' : i.val - 222 < 2 then ((hi : IVec S1x2x128 8) (ix3 0 ⟨i.val - 222, h'⟩ l)).setWidth 32
          else b (ix2 ⟨i.val - 222 - 2, by omega⟩ l)) (tword d e i) := by
  pointwise [k0_pay10]
  rfl

/-- A tile's entry, `q` the tile. -/
theorem tile (lo : Vec Ideal S1x222x128 .i8) (m0 m1 m2 : Vec Ideal S1x1x32x128 .i8) (hi : Vec Ideal S1x2x128 .i8) (d e : Vec Ideal S1x1x1x128 .i32)
    (z : BitVec 32) (p : Fin 2) (q : Fin 4) (cl cm : BitVec 32) (hl : cl = BitVec.ofNat 32 (32 * q.val))
    (hm : cm = BitVec.ofNat 32 (64 * p.val + 16 * q.val)) (i : Fin 256) (l : Fin 128) :
    k0_pay10 (F := Ideal) (k0_pay12 lanes (k0_pay4 (F := Ideal) lo) (loIx cl))
        (midVec (k0_pay5 (F := Ideal) m0) (k0_pay6 (F := Ideal) m1) (k0_pay7 (F := Ideal) m2) (midIx cm)) hi d e (ix3 (0 : Fin 1) i l)
      = Spec.elem (tcode lo m0 m1 m2 hi p q i l) (tword d e i) := by
  rw [pay10_at]
  refine congrArg (Spec.elem · _) ?_
  unfold tcode
  by_cases h : i.val < 222
  · rw [dif_pos h, dif_pos h, lo_at _ _ _ _ ⟨32 * q.val + l.val / 4, by omega⟩, pay4_at]
    · refine lo_glue (fun x => (lo : IVec S1x222x128 8) (ix3 0 ⟨i.val, h⟩ x)) _ _ _ _ (by omega) rfl ?_
      clear h hm hl
      revert l
      decide +kernel
    · rw [loIx_at, hl]
      dsimp only
      clear h hm hl
      revert l q
      decide +kernel
  rw [dif_neg h, dif_neg h]
  by_cases h' : i.val - 222 < 2
  · rw [dif_pos h', dif_pos h']
  rw [dif_neg h', dif_neg h', mid_at _ _ _ _ _ _ ⟨64 * p.val + 16 * q.val + l.val / 8, by omega⟩, pay5_at, pay6_at, pay7_at]
  · refine mid_glue (fun x => (m0 : IVec S1x1x32x128 8) (ix4 0 0 ⟨i.val - 222 - 2, by omega⟩ x))
      (fun x => (m1 : IVec S1x1x32x128 8) (ix4 0 0 ⟨i.val - 222 - 2, by omega⟩ x))
      (fun x => (m2 : IVec S1x1x32x128 8) (ix4 0 0 ⟨i.val - 222 - 2, by omega⟩ x)) _ _ _ _ _ _ (by omega) rfl rfl rfl ?_
    clear h h' hm hl
    revert l
    decide +kernel
  · rw [midIx_at, hm]
    dsimp only
    clear h h' hm hl
    revert l q p
    decide +kernel

/-- Tile `0`'s entry. -/
theorem tile0 (lo : Vec Ideal S1x222x128 .i8) (m0 m1 m2 : Vec Ideal S1x1x32x128 .i8) (hi : Vec Ideal S1x2x128 .i8) (d e : Vec Ideal S1x1x1x128 .i32)
    (arg0 : BitVec 32) (p : Fin 2) (hp : Scalar.andi arg0 1#32 = BitVec.ofNat 32 p.val) (i : Fin 256) (l : Fin 128) :
    k0_pay10 (F := Ideal) (k0_pay8 (F := Ideal) lanes lo) (k0_pay9 lanes (k0_pay5 (F := Ideal) m0) (k0_pay6 (F := Ideal) m1) (k0_pay7 (F := Ideal) m2) (Scalar.andi arg0 1#32) 64#32) hi d e (ix3 (0 : Fin 1) i l)
      = Spec.elem (tcode lo m0 m1 m2 hi p 0 i l) (tword d e i) :=
  Eq.trans (b := k0_pay10 (F := Ideal) (k0_pay12 lanes (k0_pay4 (F := Ideal) lo) (loIx 0#32))
        (midVec (k0_pay5 (F := Ideal) m0) (k0_pay6 (F := Ideal) m1) (k0_pay7 (F := Ideal) m2) (midIx (Scalar.addi (Scalar.muli 64#32 (Scalar.andi arg0 1#32)) 0#32))) hi d e (ix3 (0 : Fin 1) i l))
    rfl (tile lo m0 m1 m2 hi d e arg0 p 0 _ _ rfl (by rw [hp]; clear hp; revert p; decide +kernel) i l)

/-- Tile `1`'s entry. -/
theorem tile1 (lo : Vec Ideal S1x222x128 .i8) (m0 m1 m2 : Vec Ideal S1x1x32x128 .i8) (hi : Vec Ideal S1x2x128 .i8) (d e : Vec Ideal S1x1x1x128 .i32)
    (arg0 : BitVec 32) (p : Fin 2) (hp : Scalar.andi arg0 1#32 = BitVec.ofNat 32 p.val) (i : Fin 256) (l : Fin 128) :
    k0_pay21 (F := Ideal) (k0_pay18 (F := Ideal) lanes (k0_pay7 (F := Ideal) m2) (k0_pay12 lanes (k0_pay4 (F := Ideal) lo) (k0_pay11 lanes)) (k0_pay13 arg0 lanes) (k0_pay14 arg0 lanes (k0_pay5 (F := Ideal) m0)) (k0_pay15 arg0 lanes (k0_pay6 (F := Ideal) m1)) (k0_pay16 arg0 lanes) (k0_pay17 arg0 lanes) hi) (k0_pay19 (F := Ideal) d e) k0_pay20 (ix3 (0 : Fin 1) i l)
      = Spec.elem (tcode lo m0 m1 m2 hi p 1 i l) (tword d e i) :=
  Eq.trans (b := k0_pay10 (F := Ideal) (k0_pay12 lanes (k0_pay4 (F := Ideal) lo) (loIx 32#32))
        (midVec (k0_pay5 (F := Ideal) m0) (k0_pay6 (F := Ideal) m1) (k0_pay7 (F := Ideal) m2) (midIx (Scalar.addi (Scalar.muli 64#32 (Scalar.andi arg0 1#32)) 16#32))) hi d e (ix3 (0 : Fin 1) i l))
    rfl (tile lo m0 m1 m2 hi d e arg0 p 1 _ _ rfl (by rw [hp]; clear hp; revert p; decide +kernel) i l)

/-- Tile `2`'s entry. -/
theorem tile2 (lo : Vec Ideal S1x222x128 .i8) (m0 m1 m2 : Vec Ideal S1x1x32x128 .i8) (hi : Vec Ideal S1x2x128 .i8) (d e : Vec Ideal S1x1x1x128 .i32)
    (arg0 : BitVec 32) (p : Fin 2) (hp : Scalar.andi arg0 1#32 = BitVec.ofNat 32 p.val) (i : Fin 256) (l : Fin 128) :
    k0_pay26 (F := Ideal) (k0_pay25 (F := Ideal) lanes (k0_pay5 (F := Ideal) m0) (k0_pay6 (F := Ideal) m1) (k0_pay7 (F := Ideal) m2) (k0_pay22 lanes (k0_pay4 (F := Ideal) lo)) (k0_pay23 arg0 lanes) k0_pay24 hi) d e (ix3 (0 : Fin 1) i l)
      = Spec.elem (tcode lo m0 m1 m2 hi p 2 i l) (tword d e i) :=
  Eq.trans (b := k0_pay10 (F := Ideal) (k0_pay12 lanes (k0_pay4 (F := Ideal) lo) (loIx 64#32))
        (midVec (k0_pay5 (F := Ideal) m0) (k0_pay6 (F := Ideal) m1) (k0_pay7 (F := Ideal) m2) (midIx (Scalar.addi (Scalar.muli 64#32 (Scalar.andi arg0 1#32)) 32#32))) hi d e (ix3 (0 : Fin 1) i l))
    rfl (tile lo m0 m1 m2 hi d e arg0 p 2 _ _ rfl (by rw [hp]; clear hp; revert p; decide +kernel) i l)

/-- Tile `3`'s entry. -/
theorem tile3 (lo : Vec Ideal S1x222x128 .i8) (m0 m1 m2 : Vec Ideal S1x1x32x128 .i8) (hi : Vec Ideal S1x2x128 .i8) (d e : Vec Ideal S1x1x1x128 .i32)
    (arg0 : BitVec 32) (p : Fin 2) (hp : Scalar.andi arg0 1#32 = BitVec.ofNat 32 p.val) (i : Fin 256) (l : Fin 128) :
    k0_pay1 (F := Ideal) (k0_pay31 (F := Ideal) lanes (k0_pay29 lanes (k0_pay27 lanes (k0_pay4 (F := Ideal) lo)) k0_pay28) (k0_pay30 arg0 lanes (k0_pay5 (F := Ideal) m0) (k0_pay6 (F := Ideal) m1) (k0_pay7 (F := Ideal) m2)) hi d e) (ix3 (0 : Fin 1) i l)
      = Spec.elem (tcode lo m0 m1 m2 hi p 3 i l) (tword d e i) :=
  Eq.trans (b := k0_pay10 (F := Ideal) (k0_pay12 lanes (k0_pay4 (F := Ideal) lo) (loIx 96#32))
        (midVec (k0_pay5 (F := Ideal) m0) (k0_pay6 (F := Ideal) m1) (k0_pay7 (F := Ideal) m2) (midIx (Scalar.addi (Scalar.muli 64#32 (Scalar.andi arg0 1#32)) 48#32))) hi d e (ix3 (0 : Fin 1) i l))
    rfl (tile lo m0 m1 m2 hi d e arg0 p 3 _ _ rfl (by rw [hp]; clear hp; revert p; decide +kernel) i l)

end Cert.KernelIdeal.Hand

end
-- ==== Proof.KernelIdeal.Loop1.lean ====
/- The first loop: what the scratch holds after it, entry by entry. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.WritesUnit
public import proofs.«01_k».proof.Proof.KernelIdeal.Payload
public import proofs.«01_k».proof.Proof.KernelIdeal.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load through a rectangle of a whole buffer, at an index. -/
theorem rd {κ : Kind} {sp : Space} {s : Shape} {e : EltTy} (a : Memref sig κ sp s e) (h : a.IsWhole) (X : Vec Ideal s e)
    (off size : Fin s.rank → ℕ) (inb : ∀ b, off b + size b ≤ s.size b) (x : (Rect.unit off size inb).shape.Idx) (i : s.Idx)
    (off' : Fin s.rank → ℕ) (heq : off = off') (hi : ∀ b, (i b).val = off' b + (x b).val) :
    a.view.readAt (Elt Ideal) (Rect.unit off size inb).toLoadRect (h.unread X) x = X i := by
  subst heq
  change a.view.read (Elt Ideal) (h.unread X) _ = _
  rw [h.read_unread]
  refine congrArg X (funext fun b => Fin.ext ?_)
  change off b + 1 * (x b).val = (i b).val
  rw [hi b, Nat.one_mul]

theorem trips1 : k0_t1_loop.trips = 7 := by decide +kernel
theorem off1 : ∀ k : Fin k0_t1_loop.trips, k0_off1 k = ![k.val, 0, 0] := by decide +kernel
theorem off2 : ∀ k : Fin k0_t1_loop.trips, k0_off2 k = ![k.val, 0, 0, 0] := by decide +kernel
theorem off3 : ∀ k : Fin k0_t1_loop.trips, k0_off3 k = ![k.val, 1, 0, 0] := by decide +kernel
theorem off4 : ∀ k : Fin k0_t1_loop.trips, k0_off4 k = ![k.val, 2, 0, 0] := by decide +kernel
theorem off5 : ∀ k : Fin k0_t1_loop.trips, k0_off5 k = ![k.val, 0, 0] := by decide +kernel
theorem off8 : ∀ k : Fin k0_t1_loop.trips, k0_off8 k = ![k.val, 0, 0] := by decide +kernel
theorem off9 : ∀ k : Fin k0_t1_loop.trips, k0_off9 k = ![k.val, 0, 128] := by decide +kernel
theorem off10 : ∀ k : Fin k0_t1_loop.trips, k0_off10 k = ![k.val, 0, 128] := by decide +kernel
theorem off11 : ∀ k : Fin k0_t1_loop.trips, k0_off11 k = ![k.val, 0, 256] := by decide +kernel
theorem off12 : ∀ k : Fin k0_t1_loop.trips, k0_off12 k = ![k.val, 0, 256] := by decide +kernel
theorem off13 : ∀ k : Fin k0_t1_loop.trips, k0_off13 k = ![k.val, 0, 384] := by decide +kernel
theorem off14 : ∀ k : Fin k0_t1_loop.trips, k0_off14 k = ![k.val, 0, 384] := by decide +kernel

/-- The word of a trip. -/
theorem iv1 : ∀ k : Fin k0_t1_loop.trips, (Scalar.indexCast (Scf.iv 0#32 1#32 k)).toNat = k.val := by decide +kernel

/-- The row of the scale words a tile reads. -/
theorem col4 : ∀ (a : Fin 37) (q : Fin 4),
    (Scalar.indexCast (Scalar.addi (Scalar.muli (BitVec.ofNat 32 a.val) 4#32) (BitVec.ofNat 32 q.val))).toNat = 4 * a.val + q.val := by
  decide +kernel

theorem off6 (i : grid0.Coords) (k : Fin k0_t1_loop.trips) (q : Fin 4) :
    k0_off6 i k (BitVec.ofNat 32 q.val) = ![k.val, 0, 4 * (i 0).val + q.val, 0] := by
  unfold k0_off6
  dsimp only
  rw [iv1 k, col4 (i 0) q]

theorem off7 (i : grid0.Coords) (k : Fin k0_t1_loop.trips) (q : Fin 4) :
    k0_off7 i k (BitVec.ofNat 32 q.val) = ![k.val, 1, 4 * (i 0).val + q.val, 0] := by
  unfold k0_off7
  dsimp only
  rw [iv1 k, col4 (i 0) q]

/-- The parity of a grid point. -/
def par (i : grid0.Coords) : Fin 2 := ⟨(i 0).val % 2, by omega⟩

theorem par_word (i : grid0.Coords) : Scalar.andi (BitVec.ofNat 32 (i 0).val) 1#32 = BitVec.ofNat 32 (par i).val :=
  (by decide +kernel : ∀ a : Fin 37, Scalar.andi (BitVec.ofNat 32 a.val) 1#32 = BitVec.ofNat 32 (a.val % 2)) (i 0)

theorem ix4_congr {n1 n2 n3 n4 : ℕ} {a a' : Fin n1} {b b' : Fin n2} {x x' : Fin n3} {y y' : Fin n4} (ha : a = a') (hb : b = b') (hx : x = x')
    (hy : y = y') : (ix4 a b x y) = ix4 a' b' x' y' := by subst ha hb hx hy; rfl

/-- The entry of the scratch in row `r`, column `o`, of tenant `n`, in terms of the staged blocks. -/
def scrVal (i : grid0.Coords) (x5 : Vec Ideal S7x2x148x128 .i32) (x6 : Vec Ideal S7x2x512 .i8) (x7 : Vec Ideal S7x3x32x128 .i8) (x8 : Vec Ideal S7x222x128 .i8) (n : Fin 7) (r : Fin 256) (o : Fin 512) : EReal :=
  Spec.elem
    (if h : r.val < 222 then Spec.loC ((x8 : IVec S7x222x128 8) (ix3 n ⟨r.val, h⟩ ⟨o.val / 4, by omega⟩)) (o.val % 4)
      else if h' : r.val - 222 < 2 then ((x6 : IVec S7x2x512 8) (ix3 n ⟨r.val - 222, h'⟩ o)).setWidth 32
      else Spec.midC ((x7 : IVec S7x3x32x128 8) (ix4 n 0 ⟨r.val - 222 - 2, by omega⟩ ⟨64 * (par i).val + o.val / 8, by omega⟩))
        ((x7 : IVec S7x3x32x128 8) (ix4 n 1 ⟨r.val - 222 - 2, by omega⟩ ⟨64 * (par i).val + o.val / 8, by omega⟩))
        ((x7 : IVec S7x3x32x128 8) (ix4 n 2 ⟨r.val - 222 - 2, by omega⟩ ⟨64 * (par i).val + o.val / 8, by omega⟩)) (o.val % 8))
    ((x5 : IVec S7x2x148x128 32) (ix4 n ⟨r.val / 128, by omega⟩
      ⟨4 * (i 0).val + o.val / 128, by have h0 : (i 0).val < 37 := (i 0).isLt; omega⟩ ⟨r.val % 128, by omega⟩))

/-- A tile's entry is the scratch's, when the tile's operands are the tenant's rows of the staged blocks. -/
theorem tile_val (i : grid0.Coords) (x5 : Vec Ideal S7x2x148x128 .i32) (x6 : Vec Ideal S7x2x512 .i8) (x7 : Vec Ideal S7x3x32x128 .i8) (x8 : Vec Ideal S7x222x128 .i8) (n : Fin 7) (r : Fin 256) (o : Fin 512) (q : Fin 4) (l : Fin 128) (ho : o.val = 128 * q.val + l.val)
    (lo : IVec S1x222x128 8) (m0 m1 m2 : IVec S1x1x32x128 8) (hi : IVec S1x2x128 8) (d e : IVec S1x1x1x128 32)
    (hlo : ∀ a b, lo (ix3 0 a b) = (x8 : IVec S7x222x128 8) (ix3 n a b))
    (hm0 : ∀ a b, m0 (ix4 0 0 a b) = (x7 : IVec S7x3x32x128 8) (ix4 n 0 a b))
    (hm1 : ∀ a b, m1 (ix4 0 0 a b) = (x7 : IVec S7x3x32x128 8) (ix4 n 1 a b))
    (hm2 : ∀ a b, m2 (ix4 0 0 a b) = (x7 : IVec S7x3x32x128 8) (ix4 n 2 a b))
    (hhi : ∀ a, hi (ix3 0 a l) = (x6 : IVec S7x2x512 8) (ix3 n a o))
    (hd : ∀ b, d (ix4 0 0 0 b) = (x5 : IVec S7x2x148x128 32) (ix4 n 0 ⟨4 * (i 0).val + q.val, by have h0 : (i 0).val < 37 := (i 0).isLt; omega⟩ b))
    (he : ∀ b, e (ix4 0 0 0 b) = (x5 : IVec S7x2x148x128 32) (ix4 n 1 ⟨4 * (i 0).val + q.val, by have h0 : (i 0).val < 37 := (i 0).isLt; omega⟩ b)) :
    Spec.elem (tcode lo m0 m1 m2 hi (par i) q r l) (tword d e r) = scrVal i x5 x6 x7 x8 n r o := by
  unfold scrVal
  have hq : 4 * (i 0).val + q.val = 4 * (i 0).val + o.val / 128 := by omega
  refine congrArg₂ Spec.elem ?_ ?_
  · unfold tcode
    by_cases h : r.val < 222
    · rw [dif_pos h, dif_pos h, hlo]
      have e1 : 32 * q.val + l.val / 4 = o.val / 4 := by omega
      have e2 : l.val % 4 = o.val % 4 := by omega
      exact congrArg₂ Spec.loC (congrArg (fun z => (x8 : IVec S7x222x128 8) (ix3 n ⟨r.val, h⟩ z)) (Fin.ext e1)) e2
    rw [dif_neg h, dif_neg h]
    by_cases h' : r.val - 222 < 2
    · rw [dif_pos h', dif_pos h', hhi]
    rw [dif_neg h', dif_neg h', hm0, hm1, hm2]
    have e1 : 64 * (par i).val + 16 * q.val + l.val / 8 = 64 * (par i).val + o.val / 8 := by omega
    have e2 : l.val % 8 = o.val % 8 := by omega
    rw [e2]
    exact congrArg (fun z : Fin 128 => Spec.midC ((x7 : IVec S7x3x32x128 8) (ix4 n 0 ⟨r.val - 222 - 2, by omega⟩ z))
      ((x7 : IVec S7x3x32x128 8) (ix4 n 1 ⟨r.val - 222 - 2, by omega⟩ z))
      ((x7 : IVec S7x3x32x128 8) (ix4 n 2 ⟨r.val - 222 - 2, by omega⟩ z)) (o.val % 8)) (Fin.ext e1)
  · unfold tword
    by_cases h : r.val < 128
    · rw [dif_pos h, hd]
      refine congrArg (x5 : IVec S7x2x148x128 32) (ix4_congr ?_ ?_ ?_ ?_)
      all_goals first | rfl | (apply Fin.ext; dsimp only; omega)
    · rw [dif_neg h, he]
      refine congrArg (x5 : IVec S7x2x148x128 32) (ix4_congr ?_ ?_ ?_ ?_)
      all_goals first | rfl | (apply Fin.ext; dsimp only; omega)

set_option maxHeartbeats 2000000 in
/-- One trip's pieces over anything: tenant `k`'s entries are the trip's, the other tenants' are as they were. -/
theorem trip1_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x5 : Vec Ideal S7x2x148x128 .i32) (x6 : Vec Ideal S7x2x512 .i8) (x7 : Vec Ideal S7x3x32x128 .i8) (x8 : Vec Ideal S7x222x128 .i8) (f12 : BufTy.Contents (Elt Ideal) arg12.view.ty) (k : Fin k0_t1_loop.trips) (L : List (View.Piece (Elt Ideal) S7x256x512 .bf16)) (n : Fin 7) (r : Fin 256) (o : Fin 512) :
    arg12.view.read (Elt Ideal) (arg12.view.writes (Elt Ideal) f12 (tripL_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) lanes (harg6.unread x5) (harg7.unread x6) (harg8.unread x7) (harg9.unread x8) k ++ L)) (ix3 n r o)
      = if n.val = k.val then scrVal i x5 x6 x7 x8 n r o else arg12.view.read (Elt Ideal) (arg12.view.writes (Elt Ideal) f12 L) (ix3 n r o) := by
  unfold tripL_k0_t1 trip_k0_t1
  dsimp only [List.cons_append, List.nil_append]
  by_cases hn : n.val = k.val
  swap
  · rw [if_neg hn]
    rw [View.read_writes_cons_unit_of_not_mem _ _ _ _ _ _ (off14 k) (0 : Fin 3) (by show n.val < k.val ∨ k.val + 1 ≤ n.val; omega),
      View.read_writes_cons_unit_of_not_mem _ _ _ _ _ _ (off12 k) (0 : Fin 3) (by show n.val < k.val ∨ k.val + 1 ≤ n.val; omega),
      View.read_writes_cons_unit_of_not_mem _ _ _ _ _ _ (off10 k) (0 : Fin 3) (by show n.val < k.val ∨ k.val + 1 ≤ n.val; omega),
      View.read_writes_cons_unit_of_not_mem _ _ _ _ _ _ (off8 k) (0 : Fin 3) (by show n.val < k.val ∨ k.val + 1 ≤ n.val; omega)]
  rw [if_pos hn]
  by_cases h3 : 384 ≤ o.val
  · rw [View.read_writes_cons_unit_of_mem _ _ _ _ _ _ (ix3 (0 : Fin 1) r (⟨o.val - 384, by omega⟩ : Fin 128)) (off14 k)
      (Fin.forall_fin_succ.mpr ⟨by show n.val = k.val + 0; omega, Fin.forall_fin_two.mpr ⟨by show r.val = 0 + r.val; omega, by show o.val = 384 + (o.val - 384); omega⟩⟩)]
    sl_unfold_run_names
    refine (tile3 _ _ _ _ _ _ _ _ (par i) (par_word i) r _).trans ?_
    refine tile_val i x5 x6 x7 x8 n r o 3 _ (by show o.val = 128 * 3 + (o.val - 384); omega) _ _ _ _ _ _ _ ?_ ?_ ?_ ?_ ?_ ?_ ?_
    · intro a b; refine rd arg9 harg9 x8 _ _ _ _ _ _ (off1 k) ?_
      exact Fin.forall_fin_succ.mpr ⟨by show n.val = k.val + 0; omega, Fin.forall_fin_two.mpr ⟨by show a.val = 0 + a.val; omega, by show b.val = 0 + b.val; omega⟩⟩
    · intro a b; refine rd arg8 harg8 x7 _ _ _ _ _ _ (off2 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off3 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off4 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a; refine rd arg7 harg7 x6 _ _ _ _ _ _ (off13 k) ?_
      exact Fin.forall_fin_succ.mpr ⟨by show n.val = k.val + 0; omega, Fin.forall_fin_two.mpr ⟨by show a.val = 0 + a.val; omega, by show o.val = 384 + (o.val - 384); omega⟩⟩
    · intro b; refine rd arg6 harg6 x5 _ _ _ _ _ _ (off6 i k 3) ?_
      exact Fin.forall_fin_succ.mpr ⟨by show n.val = k.val + 0; omega, Fin.forall_fin_succ.mpr ⟨rfl, Fin.forall_fin_two.mpr ⟨rfl, by show b.val = 0 + b.val; omega⟩⟩⟩
    · intro b; refine rd arg6 harg6 x5 _ _ _ _ _ _ (off7 i k 3) ?_
      exact Fin.forall_fin_succ.mpr ⟨by show n.val = k.val + 0; omega, Fin.forall_fin_succ.mpr ⟨rfl, Fin.forall_fin_two.mpr ⟨rfl, by show b.val = 0 + b.val; omega⟩⟩⟩
  rw [View.read_writes_cons_unit_of_not_mem _ _ _ _ _ _ (off14 k) (2 : Fin 3) (by show o.val < 384 ∨ 384 + 128 ≤ o.val; omega)]
  by_cases h2 : 256 ≤ o.val
  · rw [View.read_writes_cons_unit_of_mem _ _ _ _ _ _ (ix3 (0 : Fin 1) r (⟨o.val - 256, by omega⟩ : Fin 128)) (off12 k)
      (Fin.forall_fin_succ.mpr ⟨by show n.val = k.val + 0; omega, Fin.forall_fin_two.mpr ⟨by show r.val = 0 + r.val; omega, by show o.val = 256 + (o.val - 256); omega⟩⟩)]
    sl_unfold_run_names
    refine (tile2 _ _ _ _ _ _ _ _ (par i) (par_word i) r _).trans ?_
    refine tile_val i x5 x6 x7 x8 n r o 2 _ (by show o.val = 128 * 2 + (o.val - 256); omega) _ _ _ _ _ _ _ ?_ ?_ ?_ ?_ ?_ ?_ ?_
    · intro a b; refine rd arg9 harg9 x8 _ _ _ _ _ _ (off1 k) ?_
      exact Fin.forall_fin_succ.mpr ⟨by show n.val = k.val + 0; omega, Fin.forall_fin_two.mpr ⟨by show a.val = 0 + a.val; omega, by show b.val = 0 + b.val; omega⟩⟩
    · intro a b; refine rd arg8 harg8 x7 _ _ _ _ _ _ (off2 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off3 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off4 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a; refine rd arg7 harg7 x6 _ _ _ _ _ _ (off11 k) ?_
      exact Fin.forall_fin_succ.mpr ⟨by show n.val = k.val + 0; omega, Fin.forall_fin_two.mpr ⟨by show a.val = 0 + a.val; omega, by show o.val = 256 + (o.val - 256); omega⟩⟩
    · intro b; refine rd arg6 harg6 x5 _ _ _ _ _ _ (off6 i k 2) ?_
      exact Fin.forall_fin_succ.mpr ⟨by show n.val = k.val + 0; omega, Fin.forall_fin_succ.mpr ⟨rfl, Fin.forall_fin_two.mpr ⟨rfl, by show b.val = 0 + b.val; omega⟩⟩⟩
    · intro b; refine rd arg6 harg6 x5 _ _ _ _ _ _ (off7 i k 2) ?_
      exact Fin.forall_fin_succ.mpr ⟨by show n.val = k.val + 0; omega, Fin.forall_fin_succ.mpr ⟨rfl, Fin.forall_fin_two.mpr ⟨rfl, by show b.val = 0 + b.val; omega⟩⟩⟩
  rw [View.read_writes_cons_unit_of_not_mem _ _ _ _ _ _ (off12 k) (2 : Fin 3) (by show o.val < 256 ∨ 256 + 128 ≤ o.val; omega)]
  by_cases h1 : 128 ≤ o.val
  · rw [View.read_writes_cons_unit_of_mem _ _ _ _ _ _ (ix3 (0 : Fin 1) r (⟨o.val - 128, by omega⟩ : Fin 128)) (off10 k)
      (Fin.forall_fin_succ.mpr ⟨by show n.val = k.val + 0; omega, Fin.forall_fin_two.mpr ⟨by show r.val = 0 + r.val; omega, by show o.val = 128 + (o.val - 128); omega⟩⟩)]
    sl_unfold_run_names
    refine (tile1 _ _ _ _ _ _ _ _ (par i) (par_word i) r _).trans ?_
    refine tile_val i x5 x6 x7 x8 n r o 1 _ (by show o.val = 128 * 1 + (o.val - 128); omega) _ _ _ _ _ _ _ ?_ ?_ ?_ ?_ ?_ ?_ ?_
    · intro a b; refine rd arg9 harg9 x8 _ _ _ _ _ _ (off1 k) ?_
      exact Fin.forall_fin_succ.mpr ⟨by show n.val = k.val + 0; omega, Fin.forall_fin_two.mpr ⟨by show a.val = 0 + a.val; omega, by show b.val = 0 + b.val; omega⟩⟩
    · intro a b; refine rd arg8 harg8 x7 _ _ _ _ _ _ (off2 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off3 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off4 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a; refine rd arg7 harg7 x6 _ _ _ _ _ _ (off9 k) ?_
      exact Fin.forall_fin_succ.mpr ⟨by show n.val = k.val + 0; omega, Fin.forall_fin_two.mpr ⟨by show a.val = 0 + a.val; omega, by show o.val = 128 + (o.val - 128); omega⟩⟩
    · intro b; refine rd arg6 harg6 x5 _ _ _ _ _ _ (off6 i k 1) ?_
      exact Fin.forall_fin_succ.mpr ⟨by show n.val = k.val + 0; omega, Fin.forall_fin_succ.mpr ⟨rfl, Fin.forall_fin_two.mpr ⟨rfl, by show b.val = 0 + b.val; omega⟩⟩⟩
    · intro b; refine rd arg6 harg6 x5 _ _ _ _ _ _ (off7 i k 1) ?_
      exact Fin.forall_fin_succ.mpr ⟨by show n.val = k.val + 0; omega, Fin.forall_fin_succ.mpr ⟨rfl, Fin.forall_fin_two.mpr ⟨rfl, by show b.val = 0 + b.val; omega⟩⟩⟩
  rw [View.read_writes_cons_unit_of_not_mem _ _ _ _ _ _ (off10 k) (2 : Fin 3) (by show o.val < 128 ∨ 128 + 128 ≤ o.val; omega)]
  · rw [View.read_writes_cons_unit_of_mem _ _ _ _ _ _ (ix3 (0 : Fin 1) r (⟨o.val - 0, by omega⟩ : Fin 128)) (off8 k)
      (Fin.forall_fin_succ.mpr ⟨by show n.val = k.val + 0; omega, Fin.forall_fin_two.mpr ⟨by show r.val = 0 + r.val; omega, by show o.val = 0 + (o.val - 0); omega⟩⟩)]
    sl_unfold_run_names
    refine (tile0 _ _ _ _ _ _ _ _ (par i) (par_word i) r _).trans ?_
    refine tile_val i x5 x6 x7 x8 n r o 0 _ (by show o.val = 128 * 0 + (o.val - 0); omega) _ _ _ _ _ _ _ ?_ ?_ ?_ ?_ ?_ ?_ ?_
    · intro a b; refine rd arg9 harg9 x8 _ _ _ _ _ _ (off1 k) ?_
      exact Fin.forall_fin_succ.mpr ⟨by show n.val = k.val + 0; omega, Fin.forall_fin_two.mpr ⟨by show a.val = 0 + a.val; omega, by show b.val = 0 + b.val; omega⟩⟩
    · intro a b; refine rd arg8 harg8 x7 _ _ _ _ _ _ (off2 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off3 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a b; refine rd arg8 harg8 x7 _ _ _ _ _ _ (off4 k) ?_
      exact Fin.forall_fin_succ.mpr ⟨by show n.val = k.val + 0; omega, Fin.forall_fin_succ.mpr ⟨rfl, Fin.forall_fin_two.mpr ⟨by show a.val = 0 + a.val; omega, by show b.val = 0 + b.val; omega⟩⟩⟩
    · intro a; refine rd arg7 harg7 x6 _ _ _ _ _ _ (off5 k) ?_
      exact Fin.forall_fin_succ.mpr ⟨by show n.val = k.val + 0; omega, Fin.forall_fin_two.mpr ⟨by show a.val = 0 + a.val; omega, by show o.val = 0 + (o.val - 0); omega⟩⟩
    · intro b; refine rd arg6 harg6 x5 _ _ _ _ _ _ (off6 i k 0) ?_
      exact Fin.forall_fin_succ.mpr ⟨by show n.val = k.val + 0; omega, Fin.forall_fin_succ.mpr ⟨rfl, Fin.forall_fin_two.mpr ⟨rfl, by show b.val = 0 + b.val; omega⟩⟩⟩
    · intro b; refine rd arg6 harg6 x5 _ _ _ _ _ _ (off7 i k 0) ?_
      exact Fin.forall_fin_succ.mpr ⟨by show n.val = k.val + 0; omega, Fin.forall_fin_succ.mpr ⟨rfl, Fin.forall_fin_two.mpr ⟨rfl, by show b.val = 0 + b.val; omega⟩⟩⟩

/-- The pieces of the first `K` trips: tenants below `K` have their entries. -/
theorem pb1_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x5 : Vec Ideal S7x2x148x128 .i32) (x6 : Vec Ideal S7x2x512 .i8) (x7 : Vec Ideal S7x3x32x128 .i8) (x8 : Vec Ideal S7x222x128 .i8) (f12 : BufTy.Contents (Elt Ideal) arg12.view.ty) (n : Fin 7) (r : Fin 256) (o : Fin 512) (K : ℕ) (hK : K ≤ k0_t1_loop.trips) (hn : n.val < K) :
    arg12.view.read (Elt Ideal) (arg12.view.writes (Elt Ideal) f12 (pb_k0_t1 (F := Ideal) Variants.none c none i arg1 harg1 arg2 harg2 arg3 harg3 arg4 harg4 arg5 harg5 arg6 harg6 arg7 harg7 arg8 harg8 arg9 harg9 arg10 harg10 arg11 harg11 arg12 harg12 (BitVec.ofNat 32 (i 0).val) lanes (harg6.unread x5) (harg7.unread x6) (harg8.unread x7) (harg9.unread x8) K)) (ix3 n r o) = scrVal i x5 x6 x7 x8 n r o := by
  induction K with
  | zero => exact absurd hn (Nat.not_lt_zero _)
  | succ K ih =>
    rw [pb_k0_t1_succ Variants.none c none i arg1 harg1 arg2 harg2 arg3 harg3 arg4 harg4 arg5 harg5 arg6 harg6 arg7 harg7 arg8 harg8 arg9 harg9 arg10 harg10 arg11 harg11 arg12 harg12 (BitVec.ofNat 32 (i 0).val) lanes (harg6.unread x5) (harg7.unread x6) (harg8.unread x7) (harg9.unread x8) ⟨K, hK⟩, trip1_at]
    by_cases h : n.val = K
    · exact if_pos h
    · exact (if_neg h).trans (ih (Nat.le_of_succ_le hK) (by omega))

/-- The scratch after the first loop, whatever it held before. -/
theorem scr_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x0 : Vec Ideal S5x22 .i32) (x1 : Vec Ideal S2048x3584 .bf16) (x2 : Vec Ideal S3584x512 .fp8e4m3) (x3 : Vec Ideal S1x512 .f32) (x4 : Vec Ideal S22x128x256 .bf16) (x5 : Vec Ideal S7x2x148x128 .i32) (x6 : Vec Ideal S7x2x512 .i8) (x7 : Vec Ideal S7x3x32x128 .i8) (x8 : Vec Ideal S7x222x128 .i8) (f12 : BufTy.Contents (Elt Ideal) arg12.view.ty) (n : Fin 7) (r : Fin 256) (o : Fin 512) :
    arg12.view.read (Elt Ideal) (scr c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 f12) (ix3 n r o) = scrVal i x5 x6 x7 x8 n r o :=
  pb1_at c i arg1 harg1 arg2 harg2 arg3 harg3 arg4 harg4 arg5 harg5 arg6 harg6 arg7 harg7 arg8 harg8 arg9 harg9 arg10 harg10 arg11 harg11 arg12 harg12 x5 x6 x7 x8 f12 n r o _ le_rfl (by rw [trips1]; exact n.isLt)

end Cert.KernelIdeal.Hand

end
-- ==== Proof.KernelIdeal.Blocks.lean ====
/- The blocks the body is called with, as entries of the argument arrays. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.WritesUnit
public import Idealize.ShloMosaic.Lib.StableHlo.ReadAt
public import proofs.«01_k».proof.Proof.KernelIdeal.Frame
public import proofs.«01_k».proof.Proof.KernelIdeal.Loop1

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI

variable (m : (ℓ : Loc nD τ sig) → Buf (Elt Ideal) ℓ)

/-- Column `o` of block `t`. -/
abbrev col (t : Fin cfg0.N) (o : Fin 512) : Fin 18944 := ⟨512 * t.val + o.val, by have h0 : t.val < 37 := t.isLt; omega⟩

/-- A point's one coordinate is its number. -/
theorem coords0 : ∀ t : Fin cfg0.N, ((grid0.coords t) 0).val = t.val := (by decide +kernel : ∀ t : Fin grid0.N, _)

/-- Window 1's index map is constant. -/
theorem index1 : ∀ t : Fin cfg0.N, win0_1.index t = ![0, 0] := (by decide +kernel : ∀ t : Fin grid0.N, _)
/-- Window 2 takes block column `t`. -/
theorem index2 : ∀ t : Fin cfg0.N, win0_2.index t = ![0, t.val] := (by decide +kernel : ∀ t : Fin grid0.N, win0_2.index t = ![0, t.val])
/-- Window 3 takes block column `t`. -/
theorem index3 : ∀ t : Fin cfg0.N, win0_3.index t = ![0, t.val] := (by decide +kernel : ∀ t : Fin grid0.N, win0_3.index t = ![0, t.val])
/-- Window 4's index map is constant. -/
theorem index4 : ∀ t : Fin cfg0.N, win0_4.index t = ![0, 0, 0] := (by decide +kernel : ∀ t : Fin grid0.N, _)
/-- Window 5's index map is constant. -/
theorem index5 : ∀ t : Fin cfg0.N, win0_5.index t = ![0, 0, 0, 0] := (by decide +kernel : ∀ t : Fin grid0.N, _)
/-- Window 6 takes block column `t`. -/
theorem index6 : ∀ t : Fin cfg0.N, win0_6.index t = ![0, 0, t.val] := (by decide +kernel : ∀ t : Fin grid0.N, win0_6.index t = ![0, 0, t.val])
/-- Window 7 takes one block of lanes for two points. -/
theorem index7 : ∀ t : Fin cfg0.N, win0_7.index t = ![0, 0, 0, t.val / 2] := (by decide +kernel : ∀ t : Fin grid0.N, win0_7.index t = ![0, 0, 0, t.val / 2])
/-- Window 8 takes block column `t`. -/
theorem index8 : ∀ t : Fin cfg0.N, win0_8.index t = ![0, 0, t.val] := (by decide +kernel : ∀ t : Fin grid0.N, win0_8.index t = ![0, 0, t.val])
/-- Window 9 writes block column `t`. -/
theorem index9 : ∀ t : Fin cfg0.N, win0_9.index t = ![0, t.val] := (by decide +kernel : ∀ t : Fin grid0.N, win0_9.index t = ![0, t.val])
/-- Window 10 writes block column `t`. -/
theorem index10 : ∀ t : Fin cfg0.N, win0_10.index t = ![0, t.val] := (by decide +kernel : ∀ t : Fin grid0.N, win0_10.index t = ![0, t.val])

/-- Window 1's block is the whole array. -/
theorem iblk1 (c : Dev nD) (t : Fin cfg0.N) : iblk m c 1 t = m ((c : Thread nD τ).loc main_arg1) := by
  blk_ext! [iblk, V, index1 t]

/-- Window 4's block is the whole array. -/
theorem iblk4 (c : Dev nD) (t : Fin cfg0.N) : iblk m c 4 t = m ((c : Thread nD τ).loc main_arg4) := by
  blk_ext! [iblk, V, index4 t]

/-- Window 5's block is the whole array. -/
theorem iblk5 (c : Dev nD) (t : Fin cfg0.N) : iblk m c 5 t = m ((c : Thread nD τ).loc main_arg5) := by
  blk_ext! [iblk, V, index5 t]

/-- Window 2's block holds the array's columns from `512 t` on. -/
theorem iblk2_at (c : Dev nD) (t : Fin cfg0.N) (k : Fin 3584) (o : Fin 512) :
    (iblk m c 2 t : FVec Ideal S3584x512 .fp8e4m3) (ix2 k o) = (m ((c : Thread nD τ).loc main_arg2) : FVec Ideal S3584x18944 .fp8e4m3) (ix2 k (col t o)) := by
  blk_ext! [iblk, V, index2 t]

/-- Window 6's block holds the array's columns from `512 t` on. -/
theorem iblk6_at (c : Dev nD) (t : Fin cfg0.N) (n : Fin 7) (a : Fin 2) (o : Fin 512) :
    (iblk m c 6 t : IVec S7x2x512 8) (ix3 n a o) = (m ((c : Thread nD τ).loc main_arg6) : IVec S7x2x18944 8) (ix3 n a (col t o)) := by
  blk_ext! [iblk, V, index6 t]

/-- Window 8's block holds the array's columns from `128 t` on. -/
theorem iblk8_at (c : Dev nD) (t : Fin cfg0.N) (n : Fin 7) (a : Fin 222) (b : Fin 128) :
    (iblk m c 8 t : IVec S7x222x128 8) (ix3 n a b) = (m ((c : Thread nD τ).loc main_arg8) : IVec S7x222x4736 8) (ix3 n a ⟨128 * t.val + b.val, by have h0 : t.val < 37 := t.isLt; omega⟩) := by
  blk_ext! [iblk, V, index8 t]

/-- The scale's array, as the kernel call finds it. -/
theorem scale_at (c : Dev nD) (i : S1x18944.Idx) (o : Fin 18944) (h : (i 1).val = o.val) :
    (V m c main_v0 : FVec Ideal S1x18944 .f32) i = (m ((c : Thread nD τ).loc main_arg3) : FVec Ideal S18944 .f32) (ix1 o) := by
  obtain rfl : i = ix2 0 o := funext fun a => match a with | ⟨0, _⟩ => Fin.ext (by have h0 : (i 0).val < 1 := (i 0).isLt; show (i 0).val = 0; omega) | ⟨1, _⟩ => Fin.ext h
  unfold V
  after_reads_at

/-- Window 3's block holds the scale's entries from `512 t` on. -/
theorem iblk3_at (c : Dev nD) (t : Fin cfg0.N) (o : Fin 512) :
    (iblk m c 3 t : FVec Ideal S1x512 .f32) (ix2 0 o) = (m ((c : Thread nD τ).loc main_arg3) : FVec Ideal S18944 .f32) (ix1 (col t o)) := by
  refine Eq.trans ?_ (scale_at m c (((cfg0.win 3).blk t).view.emb (ix2 0 o)) (col t o) ?_)
  · rfl
  · blk_simp
    rw [index3 t]
    show t.val * 512 + o.val = 512 * t.val + o.val
    omega

/-- The transposed three-bit codes, as the kernel call finds them. -/
theorem umid_at (c : Dev nD) (i : S7x3x32x2368.Idx) (n : Fin 7) (j : Fin 3) (a : Fin 32) (b : Fin 2368) (h0 : (i 0).val = n.val) (h1 : (i 1).val = j.val) (h2 : (i 2).val = a.val) (h3 : (i 3).val = b.val) :
    (V m c main_v1 : IVec S7x3x32x2368 8) i = (m ((c : Thread nD τ).loc main_arg7) : IVec S7x32x2368x3 8) (ix4 n a b j) := by
  obtain rfl : i = ix4 n j a b := funext fun d => match d with | ⟨0, _⟩ => Fin.ext h0 | ⟨1, _⟩ => Fin.ext h1 | ⟨2, _⟩ => Fin.ext h2 | ⟨3, _⟩ => Fin.ext h3
  unfold V
  after_reads_at

/-- The lanes of window 7's block that lie inside the array include the half that the point reads. -/
theorem xsize7 : ∀ t : Fin cfg0.N, (cfg0.win 7).xsize (cfg0.grid.coords t) 0 = 7 ∧ (cfg0.win 7).xsize (cfg0.grid.coords t) 1 = 3
    ∧ (cfg0.win 7).xsize (cfg0.grid.coords t) 2 = 32 ∧ 64 * (t.val % 2) + 64 ≤ (cfg0.win 7).xsize (cfg0.grid.coords t) 3 :=
  (by decide +kernel : ∀ t : Fin grid0.N, win0_7.xsize (grid0.coords t) 0 = 7 ∧ win0_7.xsize (grid0.coords t) 1 = 3
    ∧ win0_7.xsize (grid0.coords t) 2 = 32 ∧ 64 * (t.val % 2) + 64 ≤ win0_7.xsize (grid0.coords t) 3)

/-- Window 7's buffer at the lanes the point reads. -/
theorem blk7_at (c : Dev nD) (t : Fin cfg0.N) (d) (n : Fin 7) (j : Fin 3) (a : Fin 32) (b : Fin 128) (hb : b.val < 64 * (t.val % 2) + 64) :
    (blk7 m c t d : IVec S7x3x32x128 8) (ix4 n j a b) = (m ((c : Thread nD τ).loc main_arg7) : IVec S7x32x2368x3 8) (ix4 n a ⟨128 * (t.val / 2) + b.val, by have h0 : t.val < 37 := t.isLt; omega⟩ j) := by
  obtain ⟨e0, e1, e2, e3⟩ := xsize7 t
  have hm : (cfg0.win 7).moved (cfg0.grid.coords t) (ix4 n j a b) = true :=
    ((cfg0.win 7).moved_iff _ _).mpr fun x => match x with
      | ⟨0, _⟩ => lt_of_lt_of_eq n.isLt e0.symm
      | ⟨1, _⟩ => lt_of_lt_of_eq j.isLt e1.symm
      | ⟨2, _⟩ => lt_of_lt_of_eq a.isLt e2.symm
      | ⟨3, _⟩ => lt_of_lt_of_le hb e3
  unfold blk7 Pipeline.Window.fill
  rw [dif_pos hm]
  refine Eq.trans ?_ (umid_at m c (((cfg0.win 7).blk t).view.emb fun x => ⟨(ix4 n j a b x).val, ((cfg0.win 7).moved_iff _ _).mp hm x⟩) n j a _ ?_ ?_ ?_ ?_)
  · rfl
  all_goals blk_simp
  all_goals rw [index7 t]
  · show 0 * 7 + n.val = n.val
    omega
  · show 0 * 3 + j.val = j.val
    omega
  · show 0 * 32 + a.val = a.val
    omega
  · show t.val / 2 * 128 + b.val = 128 * (t.val / 2) + b.val
    omega

/-- The scratch's entry is the decoded factor's, at the block's column. -/
theorem scrVal_eq (c : Dev nD) (t : Fin cfg0.N) (d) (n : Fin 7) (r : Fin 256) (o : Fin 512) :
    scrVal (grid0.coords t) (iblk m c 5 t) (iblk m c 6 t) (blk7 m c t d) (iblk m c 8 t) n r o
      = Spec.U (m ((c : Thread nD τ).loc main_arg5)) (m ((c : Thread nD τ).loc main_arg6)) (m ((c : Thread nD τ).loc main_arg7)) (m ((c : Thread nD τ).loc main_arg8)) n r (col t o) := by
  have h0 : t.val < 37 := t.isLt
  have hc := coords0 t
  have hp : (par (grid0.coords t)).val = t.val % 2 := by show ((grid0.coords t) 0).val % 2 = t.val % 2; rw [hc]
  unfold scrVal Spec.U Spec.code
  rw [iblk5]
  refine congrArg₂ _ ?_ ?_
  · split_ifs with h1 h2
    · refine congrArg₂ _ ((iblk8_at m c t n _ _).trans (congrArg _ ?_)) ?_
      · exact congrArg _ (Fin.ext (by show 128 * t.val + o.val / 4 = (512 * t.val + o.val) / 4; omega))
      · show o.val % 4 = (512 * t.val + o.val) % 4
        omega
    · rw [iblk6_at]
    · have e : ∀ j : Fin 3, (blk7 m c t d : IVec S7x3x32x128 8) (ix4 n j ⟨r.val - 222 - 2, by omega⟩ ⟨64 * (par (grid0.coords t)).val + o.val / 8, by omega⟩)
          = (m ((c : Thread nD τ).loc main_arg7) : IVec S7x32x2368x3 8) (ix4 n ⟨r.val - 222 - 2, by omega⟩ ⟨(col t o).val / 8, by show (512 * t.val + o.val) / 8 < 2368; omega⟩ j) := fun j =>
        (blk7_at m c t d n j _ _ (by show 64 * (par (grid0.coords t)).val + o.val / 8 < _; omega)).trans
          (congrArg (fun b => (m ((c : Thread nD τ).loc main_arg7) : IVec S7x32x2368x3 8) (ix4 n _ b j)) (Fin.ext (by
            show 128 * (t.val / 2) + (64 * (par (grid0.coords t)).val + o.val / 8) = (512 * t.val + o.val) / 8
            omega)))
      rw [e 0, e 1, e 2]
      refine congrArg _ ?_
      show o.val % 8 = (512 * t.val + o.val) % 8
      omega
  · refine congrArg (fun b => (m ((c : Thread nD τ).loc main_arg5) : IVec S7x2x148x128 32) (ix4 n _ b _)) (Fin.ext ?_)
    show 4 * ((grid0.coords t) 0).val + o.val / 128 = (512 * t.val + o.val) / 128
    omega

end Cert.KernelIdeal.Hand

end
-- ==== Proof.KernelIdeal.Loop23.lean ====
/- The slot loop and the chunk loop: what the two outputs' buffers hold after them, entry by entry. -/
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.WritesUnit
public import proofs.«01_k».proof.Proof.KernelIdeal.Loop1
public import proofs.«01_k».proof.Proof.KernelIdeal.Frame
public import proofs.«01_k».proof.Proof.KernelIdeal.Run

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A load through a rectangle, at an index. -/
theorem rdf {κ : Kind} {sp : Space} {s : Shape} {e : EltTy} (a : Memref sig κ sp s e) (f : BufTy.Contents (Elt Ideal) a.view.ty)
    (off size : Fin s.rank → ℕ) (inb : ∀ b, off b + size b ≤ s.size b) (x : (Rect.unit off size inb).shape.Idx) (i : s.Idx)
    (off' : Fin s.rank → ℕ) (heq : off = off') (hi : ∀ b, (i b).val = off' b + (x b).val) :
    a.view.readAt (Elt Ideal) (Rect.unit off size inb).toLoadRect f x = a.view.read (Elt Ideal) f i := by
  subst heq
  change a.view.read (Elt Ideal) f _ = _
  refine congrArg (a.view.read (Elt Ideal) f) (funext fun b => Fin.ext ?_)
  change off b + 1 * (x b).val = (i b).val
  rw [hi b, Nat.one_mul]

theorem off16 : ∀ k : Fin k0_t2_loop.trips, k0_off16 k = ![k.val, 0, 0] := by decide +kernel
theorem off20 : ∀ k : Fin k0_t2_loop.trips, k0_off20 k = ![2, k.val] := by decide +kernel
theorem off21 : ∀ k : Fin k0_t3_loop.trips, k0_off21 k = ![256 * k.val, 0] := by decide +kernel
theorem off22 : ∀ k : Fin k0_t3_loop.trips, k0_off22 k = ![256 * k.val, 0] := by decide +kernel
theorem trips3 : k0_t3_loop.trips = 8 := by decide +kernel

theorem off18_of : ∀ n : Fin 7, k0_off18 (BitVec.ofNat 32 n.val) = ![n.val, 0, 0] := by decide +kernel
theorem off19_of : ∀ n : Fin 16, k0_off19 (BitVec.ofNat 32 n.val) = ![128 * n.val, 0] := by decide +kernel

theorem off18 (w : BitVec 32) (h : w.toNat < 7) : k0_off18 w = ![w.toNat, 0, 0] := by
  have := off18_of ⟨w.toNat, h⟩
  rwa [BitVec.ofNat_toNat, BitVec.setWidth_eq] at this

theorem off19 (w : BitVec 32) (h : w.toNat < 16) : k0_off19 w = ![128 * w.toNat, 0] := by
  have := off19_of ⟨w.toNat, h⟩
  rwa [BitVec.ofNat_toNat, BitVec.setWidth_eq] at this

/-- What a trip of the slot loop stores, entry by entry. -/
theorem pay2_at (v9 : Vec Ideal S1x128x256 .bf16) (v14 : Vec Ideal S1x256x512 .bf16) (v18 : Vec Ideal S128x512 .f32) (w : BitVec 32) (r : Fin 128) (o : Fin 512) :
    (k0_pay2 (F := Ideal) v9 v14 v18 w (ix2 r o) : EReal)
      = (∑ k : Fin 256, (v9 (ix3 0 r k) : EReal) * (v14 (ix3 0 k o) : EReal)) + if w = 1#32 then 0 else (v18 (ix2 r o) : EReal) := by
  pointwise [k0_pay2]
  refine congrArg (_ + ·) ?_
  by_cases h : w = 1#32
  · rw [if_pos h, h]
    rfl
  · have e : Scalar.cmpi .eq w 1#32 = 0#1 := by
      change BitVec.ofBool (w == 1#32) = _
      rw [beq_eq_false_iff_ne.mpr h]
      rfl
    rw [if_neg h, e]
    rfl

/-- What a trip of the chunk loop stores, entry by entry. -/
theorem pay3_at (v7 : Vec Ideal S256x3584 .bf16) (v8 : Vec Ideal S3584x512 .fp8e4m3) (v11 : Vec Ideal S1x512 .f32) (v16 : Vec Ideal S256x512 .f32) (r : Fin 256) (o : Fin 512) :
    (k0_pay3 (F := Ideal) v7 v8 v11 v16 (ix2 r o) : EReal)
      = (∑ k : Fin 3584, (v7 (ix2 r k) : EReal) * (v8 (ix2 k o) : EReal)) * (v11 (ix2 0 o) : EReal) + (v16 (ix2 r o) : EReal) := by
  pointwise [k0_pay3]

/-- The flag word a trip reads. -/
theorem word_flag (arg1 : Memref sig .tc .smem S5x22 .i32) (harg1 : arg1.IsWhole) (x0 : Vec Ideal S5x22 .i32) (k : Fin k0_t2_loop.trips) (inb) :
    arg1.view.readAt (Elt Ideal) (Rect.unit (s := S5x22) (k0_off20 k) S1x1.size inb).toLoadRect (harg1.unread x0) (Shape.Idx.first (numel1_S1x1.symm ▸ Nat.one_pos))
      = x0 (ix2 (2 : Fin 5) (⟨k.val, trips2 ▸ k.isLt⟩ : Fin 22)) := by
  refine rd arg1 harg1 x0 _ _ _ _ _ _ (off20 k) ?_
  intro b
  have h1 : (Shape.Idx.first (s := S1x1) (numel1_S1x1.symm ▸ Nat.one_pos) b).val = 0 := by
    revert b; decide
  rw [h1]
  clear h1; revert b; exact Fin.forall_fin_two.mpr ⟨rfl, rfl⟩

/-- The product of slot `s`. -/
def prod (x0 : Vec Ideal S5x22 .i32) (x4 : Vec Ideal S22x128x256 .bf16) (u : Fin 7 → Fin 256 → Fin 512 → EReal) (s : Fin 22) (r : Fin 128) (o : Fin 512) : EReal :=
  ∑ k : Fin 256, (x4 (ix3 s r k) : EReal) * u ⟨((x0 : IVec S5x22 32) (ix2 1 s)).toNat % 7, by omega⟩ k o

/-- The slots below `K` whose block holds row `r`, their products summed. -/
def part (x0 : Vec Ideal S5x22 .i32) (x4 : Vec Ideal S22x128x256 .bf16) (u : Fin 7 → Fin 256 → Fin 512 → EReal) (K : ℕ) (r : Fin 2048) (o : Fin 512) : EReal :=
  ∑ s : Fin 22, if s.val < K ∧ ((x0 : IVec S5x22 32) (ix2 0 s)).toNat = r.val / 128 then prod x0 x4 u s ⟨r.val % 128, by omega⟩ o else 0

theorem part_succ (x0 : Vec Ideal S5x22 .i32) (x4 : Vec Ideal S22x128x256 .bf16) (u : Fin 7 → Fin 256 → Fin 512 → EReal) (K : Fin 22) (r : Fin 2048) (o : Fin 512) :
    part x0 x4 u (K.val + 1) r o
      = part x0 x4 u K.val r o + if ((x0 : IVec S5x22 32) (ix2 0 K)).toNat = r.val / 128 then prod x0 x4 u K ⟨r.val % 128, by omega⟩ o else 0 := by
  unfold part
  rw [← Finset.sum_ite_eq' Finset.univ K (fun s => if ((x0 : IVec S5x22 32) (ix2 0 s)).toNat = r.val / 128 then prod x0 x4 u s ⟨r.val % 128, by omega⟩ o else 0) |>.trans (if_pos (Finset.mem_univ K)),
    ← Finset.sum_add_distrib]
  refine Finset.sum_congr rfl fun s _ => ?_
  by_cases h : ((x0 : IVec S5x22 32) (ix2 0 s)).toNat = r.val / 128
  · simp only [h, and_true, if_true]
    rcases lt_trichotomy s.val K.val with h1 | h1 | h1
    · rw [if_pos (by omega), if_pos h1, if_neg (fun e => by subst e; omega), add_zero]
    · rw [if_pos (by omega), if_neg (by omega), if_pos (Fin.ext h1), zero_add]
    · rw [if_neg (by omega), if_neg (by omega), if_neg (fun e => by subst e; omega), add_zero]
  · simp only [h, and_false, if_false, ite_self, add_zero]

theorem part_zero (x0 : Vec Ideal S5x22 .i32) (x4 : Vec Ideal S22x128x256 .bf16) (u : Fin 7 → Fin 256 → Fin 512 → EReal) (K : ℕ) (r : Fin 2048) (o : Fin 512)
    (h : ∀ s : Fin 22, s.val < K → ((x0 : IVec S5x22 32) (ix2 0 s)).toNat ≠ r.val / 128) : part x0 x4 u K r o = 0 :=
  Finset.sum_eq_zero fun s _ => if_neg fun e => h s e.1 e.2

set_option maxHeartbeats 1000000 in
/-- One trip of the slot loop: the rows of its block get its product and, unless it is flagged, what they held; the other rows
    are as they were. -/
theorem trip2_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x0 : Vec Ideal S5x22 .i32) (x4 : Vec Ideal S22x128x256 .bf16) (g12 : BufTy.Contents (Elt Ideal) arg12.view.ty) (u : Fin 7 → Fin 256 → Fin 512 → EReal)
    (hg : ∀ n r o, (arg12.view.read (Elt Ideal) g12 (ix3 n r o) : EReal) = u n r o) (hT : Tab.OK x0) (f11 : BufTy.Contents (Elt Ideal) arg11.view.ty)
    (hw1 : ∀ (kq : ℕ) (hkq : kq < k0_t2_loop.trips), k0_chk1 (arg1.view.readAt (Elt Ideal) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt Ideal) (Rect.unit (s := S5x22) (k0_off17 ⟨kq, hkq⟩) S1x1.size (k0_off17_inb ⟨kq, hkq⟩)).toLoadRect (harg1.unread x0) (Shape.Idx.first (numel1_S1x1.symm ▸ Nat.one_pos)))) (k : Fin k0_t2_loop.trips) (L : List (View.Piece (Elt Ideal) S2048x512 .f32)) (r : Fin 2048) (o : Fin 512) :
    (arg11.view.read (Elt Ideal) (arg11.view.writes (Elt Ideal) f11 (tripL_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 k (hw1 k.val k.isLt) (hw2 k.val k.isLt) (arg11.view.writes (Elt Ideal) f11 L) ++ L)) (ix2 r o) : EReal)
      = if ((x0 : IVec S5x22 32) (ix2 0 ⟨k.val, trips2 ▸ k.isLt⟩)).toNat = r.val / 128 then
          prod x0 x4 u ⟨k.val, trips2 ▸ k.isLt⟩ ⟨r.val % 128, by omega⟩ o
            + if (x0 : IVec S5x22 32) (ix2 2 ⟨k.val, trips2 ▸ k.isLt⟩) = 1#32 then 0 else (arg11.view.read (Elt Ideal) (arg11.view.writes (Elt Ideal) f11 L) (ix2 r o) : EReal)
        else arg11.view.read (Elt Ideal) (arg11.view.writes (Elt Ideal) f11 L) (ix2 r o) := by
  have hs : k.val < 22 := trips2 ▸ k.isLt
  have hb := hT.block ⟨k.val, hs⟩
  have ht := hT.tenant ⟨k.val, hs⟩
  unfold tripL_k0_t2 trip_k0_t2
  dsimp only [List.cons_append, List.nil_append]
  sl_unfold_run_names
  have e0 := word_block (F := Ideal) arg1 harg1 x0 k
  have e1 := word_tenant (F := Ideal) arg1 harg1 x0 k
  have o19 := (congrArg k0_off19 e0).trans (off19 _ hb)
  have o18 := (congrArg k0_off18 e1).trans (off18 _ ht)
  by_cases h : ((x0 : IVec S5x22 32) (ix2 0 ⟨k.val, hs⟩)).toNat = r.val / 128
  swap
  · rw [if_neg h]
    exact View.read_writes_cons_unit_of_not_mem _ _ _ _ _ _ o19 (0 : Fin 2)
      (by show r.val < 128 * ((x0 : IVec S5x22 32) (ix2 0 ⟨k.val, hs⟩)).toNat ∨ 128 * ((x0 : IVec S5x22 32) (ix2 0 ⟨k.val, hs⟩)).toNat + 128 ≤ r.val; omega)
  rw [if_pos h]
  refine (View.read_writes_cons_unit_of_mem _ _ _ _ _ _ (ix2 (⟨r.val % 128, by omega⟩ : Fin 128) o) o19
    (Fin.forall_fin_two.mpr ⟨by show r.val = 128 * ((x0 : IVec S5x22 32) (ix2 0 ⟨k.val, hs⟩)).toNat + r.val % 128; omega, by show o.val = 0 + o.val; omega⟩)).trans ?_
  refine (pay2_at _ _ _ _ _ _).trans ?_
  refine congrArg₂ (· + ·) ?_ ?_
  · unfold prod
    refine Finset.sum_congr rfl fun a _ => congrArg₂ (· * ·) ?_ ?_
    · refine rd arg5 harg5 x4 _ _ _ _ _ _ (off16 k) ?_
      exact Fin.forall_fin_succ.mpr ⟨by show k.val = k.val + 0; omega, Fin.forall_fin_two.mpr ⟨by show r.val % 128 = 0 + r.val % 128; omega, by show a.val = 0 + a.val; omega⟩⟩
    · refine Eq.trans ?_ (hg _ _ _)
      refine rdf arg12 g12 _ _ _ _ _ _ o18 ?_
      exact Fin.forall_fin_succ.mpr ⟨by show ((x0 : IVec S5x22 32) (ix2 1 ⟨k.val, hs⟩)).toNat % 7 = ((x0 : IVec S5x22 32) (ix2 1 ⟨k.val, hs⟩)).toNat + 0; omega, Fin.forall_fin_two.mpr ⟨by show a.val = 0 + a.val; omega, by show o.val = 0 + o.val; omega⟩⟩
  · have ef := word_flag arg1 harg1 x0 k
    refine if_congr (by rw [← ef]) rfl ?_
    refine rdf arg11 _ _ _ _ _ _ _ o19 ?_
    exact Fin.forall_fin_two.mpr ⟨by show r.val = 128 * ((x0 : IVec S5x22 32) (ix2 0 ⟨k.val, hs⟩)).toNat + r.val % 128; omega, by show o.val = 0 + o.val; omega⟩

/-- The rows of a block hold the products of its slots so far, summed, once a flagged slot of the block has run. -/
theorem pb2_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x0 : Vec Ideal S5x22 .i32) (x4 : Vec Ideal S22x128x256 .bf16) (g12 : BufTy.Contents (Elt Ideal) arg12.view.ty) (u : Fin 7 → Fin 256 → Fin 512 → EReal)
    (hg : ∀ n r o, (arg12.view.read (Elt Ideal) g12 (ix3 n r o) : EReal) = u n r o) (hT : Tab.OK x0) (f11 : BufTy.Contents (Elt Ideal) arg11.view.ty)
    (hw1 : ∀ (kq : ℕ) (hkq : kq < k0_t2_loop.trips), k0_chk1 (arg1.view.readAt (Elt Ideal) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt Ideal) (Rect.unit (s := S5x22) (k0_off17 ⟨kq, hkq⟩) S1x1.size (k0_off17_inb ⟨kq, hkq⟩)).toLoadRect (harg1.unread x0) (Shape.Idx.first (numel1_S1x1.symm ▸ Nat.one_pos)))) (r : Fin 2048) (o : Fin 512) (K : ℕ) (hK : K ≤ k0_t2_loop.trips)
    (hf : ∃ s : Fin 22, s.val < K ∧ ((x0 : IVec S5x22 32) (ix2 0 s)).toNat = r.val / 128 ∧ (x0 : IVec S5x22 32) (ix2 2 s) = 1#32) :
    (arg11.view.read (Elt Ideal) (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 f11 hw1 hw2 K)) (ix2 r o) : EReal) = part x0 x4 u K r o := by
  induction K with
  | zero => obtain ⟨s, h, _⟩ := hf; exact absurd h (Nat.not_lt_zero _)
  | succ K ih =>
    have hK' : K < 22 := by rw [trips2] at hK; omega
    rw [pb_k0_t2_succ Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 f11 hw1 hw2 ⟨K, hK⟩]
    refine (trip2_at c i arg1 harg1 arg2 harg2 arg3 harg3 arg4 harg4 arg5 harg5 arg6 harg6 arg7 harg7 arg8 harg8 arg9 harg9 arg10 harg10 arg11 harg11 arg12 harg12 x0 x4 g12 u hg hT f11 hw1 hw2 ⟨K, hK⟩ _ r o).trans ?_
    refine Eq.trans ?_ (part_succ x0 x4 u ⟨K, hK'⟩ r o).symm
    obtain ⟨s, h1, h2, h3⟩ := hf
    by_cases hb : ((x0 : IVec S5x22 32) (ix2 0 ⟨K, hK'⟩)).toNat = r.val / 128
    swap
    · have hsK : s.val ≠ K := fun e => hb (by rw [← h2]; exact congrArg (fun z => ((x0 : IVec S5x22 32) (ix2 0 z)).toNat) (Fin.ext e.symm))
      rw [if_neg hb]
      refine (ih (Nat.le_of_succ_le hK) ⟨s, by omega, h2, h3⟩).trans ?_
      exact (add_zero _).symm.trans (congrArg (part x0 x4 u K r o + ·) (if_neg hb).symm)
    · refine (if_pos hb).trans ?_
      refine Eq.trans ?_ (congrArg (part x0 x4 u K r o + ·) (if_pos hb).symm)
      have same : ∀ s' : Fin 22, ((x0 : IVec S5x22 32) (ix2 0 s')).toNat = r.val / 128 → (x0 : IVec S5x22 32) (ix2 0 s') = (x0 : IVec S5x22 32) (ix2 0 ⟨K, hK'⟩) :=
        fun s' e => BitVec.eq_of_toNat_eq (e.trans hb.symm)
      by_cases hfl : (x0 : IVec S5x22 32) (ix2 2 ⟨K, hK'⟩) = 1#32
      · rw [part_zero x0 x4 u K r o (fun s' hs' e => hT.first s' ⟨K, hK'⟩ hs' (same s' e) hfl), zero_add]
        exact (congrArg (_ + ·) (if_pos hfl)).trans (add_zero _)
      · have hsK : s.val ≠ K := fun e => hfl (by rw [← h3]; exact congrArg (fun z => (x0 : IVec S5x22 32) (ix2 2 z)) (Fin.ext e.symm))
        refine (congrArg (_ + ·) ((if_neg hfl).trans (ih (Nat.le_of_succ_le hK) ⟨s, by omega, h2, h3⟩))).trans ?_
        exact add_comm _ _

/-- The second output's buffer after the slot loop, whatever it held before. -/
theorem acc_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x0 : Vec Ideal S5x22 .i32) (x4 : Vec Ideal S22x128x256 .bf16) (g12 : BufTy.Contents (Elt Ideal) arg12.view.ty) (u : Fin 7 → Fin 256 → Fin 512 → EReal)
    (hg : ∀ n r o, (arg12.view.read (Elt Ideal) g12 (ix3 n r o) : EReal) = u n r o) (hT : Tab.OK x0) (f11 : BufTy.Contents (Elt Ideal) arg11.view.ty)
    (hw1 : ∀ (kq : ℕ) (hkq : kq < k0_t2_loop.trips), k0_chk1 (arg1.view.readAt (Elt Ideal) (Rect.unit (s := S5x22) (k0_off15 ⟨kq, hkq⟩) S1x1.size (k0_off15_inb ⟨kq, hkq⟩)).toLoadRect (harg1.unread x0) (Shape.Idx.first (numel1_S1x1.symm ▸ Nat.one_pos))))
    (hw2 : ∀ (kq : ℕ) (hkq : kq < k0_t2_loop.trips), k0_chk2 (arg1.view.readAt (Elt Ideal) (Rect.unit (s := S5x22) (k0_off17 ⟨kq, hkq⟩) S1x1.size (k0_off17_inb ⟨kq, hkq⟩)).toLoadRect (harg1.unread x0) (Shape.Idx.first (numel1_S1x1.symm ▸ Nat.one_pos)))) (r : Fin 2048) (o : Fin 512) :
    (arg11.view.read (Elt Ideal) (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 (harg1.unread x0) (harg5.unread x4) g12 f11 hw1 hw2 k0_t2_loop.trips)) (ix2 r o) : EReal)
      = ∑ s : Fin 22, if ((x0 : IVec S5x22 32) (ix2 0 s)).toNat = r.val / 128 then prod x0 x4 u s ⟨r.val % 128, by omega⟩ o else 0 := by
  obtain ⟨s, h1, h2⟩ := hT.cover ⟨r.val / 128, by omega⟩
  refine (pb2_at c i arg1 harg1 arg2 harg2 arg3 harg3 arg4 harg4 arg5 harg5 arg6 harg6 arg7 harg7 arg8 harg8 arg9 harg9 arg10 harg10 arg11 harg11 arg12 harg12 x0 x4 g12 u hg hT f11 hw1 hw2 r o _ le_rfl ⟨s, by rw [trips2]; exact s.isLt, ?_, h2⟩).trans ?_
  · rw [h1, BitVec.toNat_ofNat, Nat.mod_eq_of_lt (by omega)]
  · refine Finset.sum_congr rfl fun s' _ => if_congr ?_ rfl rfl
    rw [trips2]
    exact and_iff_right s'.isLt

/-- One trip of the chunk loop: its rows get their entries, the other rows are as they were. -/
theorem trip3_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x1 : Vec Ideal S2048x3584 .bf16) (x2 : Vec Ideal S3584x512 .fp8e4m3) (x3 : Vec Ideal S1x512 .f32) (g11 : BufTy.Contents (Elt Ideal) arg11.view.ty) (f10 : BufTy.Contents (Elt Ideal) arg10.view.ty) (k : Fin k0_t3_loop.trips) (L : List (View.Piece (Elt Ideal) S2048x512 .bf16)) (r : Fin 2048) (o : Fin 512) :
    (arg10.view.read (Elt Ideal) (arg10.view.writes (Elt Ideal) f10 (tripL_k0_t3 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 k ++ L)) (ix2 r o) : EReal)
      = if r.val / 256 = k.val then (∑ a : Fin 3584, (x1 (ix2 r a) : EReal) * (x2 (ix2 a o) : EReal)) * (x3 (ix2 0 o) : EReal) + (arg11.view.read (Elt Ideal) g11 (ix2 r o) : EReal)
        else arg10.view.read (Elt Ideal) (arg10.view.writes (Elt Ideal) f10 L) (ix2 r o) := by
  unfold tripL_k0_t3 trip_k0_t3
  dsimp only [List.cons_append, List.nil_append]
  by_cases h : r.val / 256 = k.val
  swap
  · rw [if_neg h]
    exact View.read_writes_cons_unit_of_not_mem _ _ _ _ _ _ (off22 k) (0 : Fin 2)
      (by show r.val < 256 * k.val ∨ 256 * k.val + 256 ≤ r.val; omega)
  rw [if_pos h]
  refine (View.read_writes_cons_unit_of_mem _ _ _ _ _ _ (ix2 (⟨r.val % 256, by omega⟩ : Fin 256) o) (off22 k)
    (Fin.forall_fin_two.mpr ⟨by show r.val = 256 * k.val + r.val % 256; omega, by show o.val = 0 + o.val; omega⟩)).trans ?_
  refine (pay3_at _ _ _ _ _ _).trans ?_
  refine congrArg₂ (· + ·) (congrArg₂ (· * ·) (Finset.sum_congr rfl fun a _ => congrArg₂ (· * ·) ?_ ?_) ?_) ?_
  · refine rd arg2 harg2 x1 _ _ _ _ _ _ (off21 k) ?_
    exact Fin.forall_fin_two.mpr ⟨by show r.val = 256 * k.val + r.val % 256; omega, by show a.val = 0 + a.val; omega⟩
  · refine rd arg3 harg3 x2 _ _ _ _ _ _ rfl ?_
    exact Fin.forall_fin_two.mpr ⟨by show a.val = 0 + a.val; omega, by show o.val = 0 + o.val; omega⟩
  · refine rd arg4 harg4 x3 _ _ _ _ _ _ rfl ?_
    exact Fin.forall_fin_two.mpr ⟨rfl, by show o.val = 0 + o.val; omega⟩
  · refine rdf arg11 g11 _ _ _ _ _ _ (off22 k) ?_
    exact Fin.forall_fin_two.mpr ⟨by show r.val = 256 * k.val + r.val % 256; omega, by show o.val = 0 + o.val; omega⟩

/-- The first `K` chunks' rows have their entries after the first `K` trips. -/
theorem pb3_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x1 : Vec Ideal S2048x3584 .bf16) (x2 : Vec Ideal S3584x512 .fp8e4m3) (x3 : Vec Ideal S1x512 .f32) (g11 : BufTy.Contents (Elt Ideal) arg11.view.ty) (f10 : BufTy.Contents (Elt Ideal) arg10.view.ty) (r : Fin 2048) (o : Fin 512) (K : ℕ) (hK : K ≤ k0_t3_loop.trips) (hr : r.val / 256 < K) :
    (arg10.view.read (Elt Ideal) (arg10.view.writes (Elt Ideal) f10 (pb_k0_t3 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 K)) (ix2 r o) : EReal) = (∑ a : Fin 3584, (x1 (ix2 r a) : EReal) * (x2 (ix2 a o) : EReal)) * (x3 (ix2 0 o) : EReal) + (arg11.view.read (Elt Ideal) g11 (ix2 r o) : EReal) := by
  induction K with
  | zero => exact absurd hr (Nat.not_lt_zero _)
  | succ K ih =>
    rw [pb_k0_t3_succ Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 ⟨K, hK⟩]
    refine (trip3_at c i arg1 harg1 arg2 harg2 arg3 harg3 arg4 harg4 arg5 harg5 arg6 harg6 arg7 harg7 arg8 harg8 arg9 harg9 arg10 harg10 arg11 harg11 arg12 harg12 x1 x2 x3 g11 f10 ⟨K, hK⟩ _ r o).trans ?_
    by_cases h : r.val / 256 = K
    · exact if_pos h
    · exact (if_neg h).trans (ih (Nat.le_of_succ_le hK) (by omega))

/-- The first output's buffer after the chunk loop, whatever it held before. -/
theorem fin_at (c : Dev nD) (i : grid0.Coords) (arg1 : Memref sig .tc .smem S5x22 .i32) (harg1 : arg1.IsWhole) (arg2 : Memref sig .tc .vmem S2048x3584 .bf16) (harg2 : arg2.IsWhole) (arg3 : Memref sig .tc .vmem S3584x512 .fp8e4m3) (harg3 : arg3.IsWhole) (arg4 : Memref sig .tc .vmem S1x512 .f32) (harg4 : arg4.IsWhole) (arg5 : Memref sig .tc .vmem S22x128x256 .bf16) (harg5 : arg5.IsWhole) (arg6 : Memref sig .tc .vmem S7x2x148x128 .i32) (harg6 : arg6.IsWhole) (arg7 : Memref sig .tc .vmem S7x2x512 .i8) (harg7 : arg7.IsWhole) (arg8 : Memref sig .tc .vmem S7x3x32x128 .i8) (harg8 : arg8.IsWhole) (arg9 : Memref sig .tc .vmem S7x222x128 .i8) (harg9 : arg9.IsWhole) (arg10 : Memref sig .tc .vmem S2048x512 .bf16) (harg10 : arg10.IsWhole) (arg11 : Memref sig .tc .vmem S2048x512 .f32) (harg11 : arg11.IsWhole) (arg12 : Memref sig .tc .vmem S7x256x512 .bf16) (harg12 : arg12.IsWhole) (x1 : Vec Ideal S2048x3584 .bf16) (x2 : Vec Ideal S3584x512 .fp8e4m3) (x3 : Vec Ideal S1x512 .f32) (g11 : BufTy.Contents (Elt Ideal) arg11.view.ty) (f10 : BufTy.Contents (Elt Ideal) arg10.view.ty) (r : Fin 2048) (o : Fin 512) :
    (arg10.view.read (Elt Ideal) (arg10.view.writes (Elt Ideal) f10 (pb_k0_t3 (F := Ideal) Variants.none c none i arg1 harg1 arg2 harg2 arg3 harg3 arg4 harg4 arg5 harg5 arg6 harg6 arg7 harg7 arg8 harg8 arg9 harg9 arg10 harg10 arg11 harg11 arg12 harg12 (harg2.unread x1) (harg3.unread x2) (harg4.unread x3) g11 k0_t3_loop.trips)) (ix2 r o) : EReal) = (∑ a : Fin 3584, (x1 (ix2 r a) : EReal) * (x2 (ix2 a o) : EReal)) * (x3 (ix2 0 o) : EReal) + (arg11.view.read (Elt Ideal) g11 (ix2 r o) : EReal) :=
  pb3_at c i arg1 harg1 arg2 harg2 arg3 harg3 arg4 harg4 arg5 harg5 arg6 harg6 arg7 harg7 arg8 harg8 arg9 harg9 arg10 harg10 arg11 harg11 arg12 harg12 x1 x2 x3 g11 f10 r o _ le_rfl (by rw [trips3]; omega)

end Cert.KernelIdeal.Hand

end
-- ==== Proof.KernelIdeal.Exact.lean ====
/- The kernel's run at exact proof data: its two results the arrays of `Cert.Spec`. -/
module

public import proofs.«01_k».proof.Proof.KernelIdeal.Blocks
public import proofs.«01_k».proof.Proof.KernelIdeal.Loop23
public import Idealize.ShloMosaic.Lib.Claim

@[expose] public section

set_option maxRecDepth 16384

noncomputable section

namespace Cert.KernelIdeal.Exact

open Cert.KernelIdeal.Gen
open Cert.KernelIdeal.Hand hiding dats A_eq after0_0 after0_1 after0_2 after0_3 after0_4 after0_5 after0_6 after0_7 after0_8 before0_0 before0_1 before0_2 before0_3 before0_4 before0_5 before0_6 before0_7 before0_8 bodyPre bodyPost sound_body body_obligation
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The second result of the memory's arguments. -/
abbrev YD (c : Dev nD) : FVec Ideal S2048x18944 .f32 :=
  Spec.YD (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8))

/-- The first result of the memory's arguments. -/
abbrev Y (c : Dev nD) : FVec Ideal S2048x18944 .bf16 :=
  Spec.Y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Block `t` of the first result. -/
def yb (c : Dev nD) (t : Fin cfg0.N) : FVec Ideal S2048x512 .bf16 := fun i => Y m c (ix2 (i 0) (col t (i 1)))

/-- Block `t` of the second result. -/
def ydb (c : Dev nD) (t : Fin cfg0.N) : FVec Ideal S2048x512 .f32 := fun i => YD m c (ix2 (i 0) (col t (i 1)))

/-- What the body leaves in the second output's buffer, whatever was in it, is block `t` of the second result. -/
theorem acc_eq (hT : TabOK m) (c : Dev nD) (t : Fin cfg0.N) (d7) (f11 : BufTy.Contents (Elt Ideal) (ms0_10 t).view.ty) (f12 : BufTy.Contents (Elt Ideal) scM0_0.view.ty) :
    (ms0_10 t).view.read (Elt Ideal) (acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) (scr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f12) f11
      (fun kq hkq => hw1 m hT c t _ _ kq hkq) (fun kq hkq => hw2 m hT c t _ _ kq hkq)) = ydb m c t := by
  funext i
  obtain ⟨r, o, rfl⟩ : ∃ (r : Fin 2048) (o : Fin 512), i = ix2 r o := ⟨i 0, i 1, by funext a; match a with | ⟨0, _⟩ => rfl | ⟨1, _⟩ => rfl⟩
  refine (acc_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 4 t) _
    (fun n r o => Spec.U (m ((c : Thread nD τ).loc main_arg5)) (m ((c : Thread nD τ).loc main_arg6)) (m ((c : Thread nD τ).loc main_arg7)) (m ((c : Thread nD τ).loc main_arg8)) n r (col t o))
    (fun n r o => (scr_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f12 n r o).trans (scrVal_eq m c t d7 n r o)) (by rw [iblk0]; exact hT c) f11 _ _ r o).trans ?_
  rw [iblk0, iblk4]
  rfl

/-- What the body leaves in the first output's buffer, whatever was in it, is block `t` of the first result. -/
theorem fin_eq (hT : TabOK m) (c : Dev nD) (t : Fin cfg0.N) (d7) (f10 : BufTy.Contents (Elt Ideal) (ms0_9 t).view.ty) (f11 : BufTy.Contents (Elt Ideal) (ms0_10 t).view.ty) (f12 : BufTy.Contents (Elt Ideal) scM0_0.view.ty) :
    (ms0_9 t).view.read (Elt Ideal) (fin c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) (acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) (scr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f12) f11
      (fun kq hkq => hw1 m hT c t _ _ kq hkq) (fun kq hkq => hw2 m hT c t _ _ kq hkq)) f10) = yb m c t := by
  funext i
  obtain ⟨r, o, rfl⟩ : ∃ (r : Fin 2048) (o : Fin 512), i = ix2 r o := ⟨i 0, i 1, by funext a; match a with | ⟨0, _⟩ => rfl | ⟨1, _⟩ => rfl⟩
  refine (fin_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 1 t) (iblk m c 2 t) (iblk m c 3 t) _ f10 r o).trans ?_
  refine congrArg₂ (fun a b : EReal => a + b) (congrArg₂ (fun a b : EReal => a * b) (Finset.sum_congr rfl fun k _ => ?_) (iblk3_at m c t o)) ?_
  · rw [iblk1]
    exact congrArg _ (iblk2_at m c t k o)
  · exact congrFun (acc_eq m hT c t d7 f11 f12) (ix2 r o)

/-! ## The pipeline's proof data -/

/-- The proof data on core `c`: the arrays as the region finds them; after the body each input's buffer at its block (window 7's
    on the part inside the array), each output's at its block of the result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => blk7 m c t (fun _ => Classical.arbitrary _)
    | ⟨8, _⟩ => iblk m c 8 t
    | ⟨9, _⟩ => yb m c t
    | ⟨10, _⟩ => ydb m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_8 (c : Dev nD) (t : Fin cfg0.N) : (dats m 0 c).after 8 t = iblk m c 8 t := by dsimp only [dats]
theorem after0_7 (c : Dev nD) (t : Fin cfg0.N) : (dats m 0 c).after 7 t = blk7 m c t (fun _ => Classical.arbitrary _) := by dsimp only [dats]
theorem after0_9 (c : Dev nD) (t : Fin cfg0.N) : (dats m 0 c).after 9 t = yb m c t := by dsimp only [dats]
theorem after0_10 (c : Dev nD) (t : Fin cfg0.N) : (dats m 0 c).after 10 t = ydb m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8 (c : Dev nD) (t : Fin cfg0.N) (d) : (dats m 0 c).before 8 t d = iblk m c 8 t :=
  before0_8_of m (dats m 0 c) (A_eq m c 8) (after0_8 m c) t d

/-- Window 7's buffer holds its block's part inside the array at every point, fetched there or not. -/
theorem before0_7 (c : Dev nD) (t : Fin cfg0.N) (d) : (dats m 0 c).before 7 t d = blk7 m c t d :=
  (Dat.before_in_eq_fetched (dats m 0 c) 7 rfl (fun _ => rfl) clip7
    (fun t => by rw [after0_7]; exact (cfg0.win 7).cut_fill _ _ _) t d).trans rfl

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare ((cfg0.win 7).fill (cfg0.grid.coords t) d ((cfg0.win 7).cut (cfg0.grid.coords t) ((dats m 0 c).after 7 t))))
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

/-- A memref owned at some contents is its elements at some buffer. -/
theorem owns_some_of {c : Dev nD} {sp : Space} {sh : Shape} {e : EltTy} (a : Memref sig .tc sp sh e) {α : Type} (g : α → (sh.Idx → Elt Ideal e)) :
    (iprop(∃ d, owns (c : Thread nD τ) a fullShare (g d)) : sProp 𝕄) ⊢ iprop(∃ f, a.view.loc (c : Thread nD τ) ↦[a.view.set]{fullShare} f) := by
  unfold owns
  iintro ⟨%d, %f, %e, H⟩
  iexists f
  iexact H

/-- A buffer's elements are the memref owned at what it reads of the buffer. -/
theorem owns_read {c : Dev nD} {sp : Space} {sh : Shape} {e : EltTy} (a : Memref sig .tc sp sh e) (f : a.view.ty.Contents (Elt Ideal)) (X : sh.Idx → Elt Ideal e)
    (h : a.view.read (Elt Ideal) f = X) :
    (a.view.loc (c : Thread nD τ) ↦[a.view.set]{fullShare} f : sProp 𝕄) ⊢ owns (c : Thread nD τ) a fullShare X := by
  subst h
  unfold owns
  iintro H
  iexists f
  isplitr
  · ipureintro; rfl
  iexact H

set_option maxHeartbeats 1200000 in
/-- The body at any point. -/
theorem sound_body (hT : TabOK m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq, (cfg0.win 7).cut_fill]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
  icases (owns_some_of (ms0_9 t) _) $$ H9 with ⟨%f9, H9⟩
  icases (owns_some_of (ms0_10 t) _) $$ H10 with ⟨%f10, H10⟩
  icases (owns_some scM0_0) $$ HS0 with ⟨%fS, HS0⟩
  iapply ((kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (iblk m c 0 t) (iblk m c 1 t) (iblk m c 2 t) (iblk m c 3 t) (iblk m c 4 t) (iblk m c 5 t) (iblk m c 6 t) (blk7 m c t d7) (iblk m c 8 t) f9 f10 fS
    (fun kq hkq => hw1 m hT c t _ _ kq hkq) (fun kq hkq => hw2 m hT c t _ _ kq hkq)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  iintro ⟨H0, H1, H2, H3, H4, H5, H6, H7, H8, H9, H10, HS0⟩
  isplitl [HS0 Hg]
  · isplitl [HS0]
    · iapply (some_owns scM0_0 _) $$ HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists d7; iexact H7
  isplitl [H8]; · iexact H8
  isplitl [H9]
  · iapply (owns_read (ms0_9 t) _ _ (fin_eq m hT c t d7 f9 f10 fS)) $$ H9
  iapply (owns_read (ms0_10 t) _ _ (acc_eq m hT c t d7 f10 fS)) $$ H10

/-- The pipeline's body obligation, at every point. -/
theorem body_obligation (hT : TabOK m) (c : Dev nD) :
    BodyObligationLoose (dats m 0 c) (defs₀ (F := Ideal)) Variants.none () Set.univ := fun t => by
  rw [bigSep_W0, bigSep_W0, defs₀_row]
  exact triple_restated (sound_body m hT c t) rfl .rfl fun _ => .rfl

/-! ## The run -/

set_option backward.isDefEq.respectTransparency.types false in
/-- The launch: every fair execution terminates with the arrays as the proof data says. -/
theorem run_main (ρ : Dev nD → PrngReg) (hT : TabOK m) : θ_run defs (onTc (τ := τ) (main (F := Ideal))) (s₀ m ρ) (Pipeline.FramePost cfgs (dats m) (0 : Fin 1) (V m)) :=
  Pipeline.θ_run_frame (Q' := _) cfgs (dats m) (0 : Fin 1) launch0 defs₀ Variants.none m ρ main
    (hbody := fun c => body_obligation m hT c) (hshare := fun c => (dats m 0 c).share_full fun _ => rfl)
    (howed := fun _ _ => rfl) (V := V m) (hmain := hmain m Variants.none) (hA := A_eq m) (hΦ := fun _ _ => rfl)

/-- The first result's array after the run. -/
theorem arr9 (c : Dev nD) : (dats m 0 c).arrAt 9 (cfgs 0).N = Y m c := by
  refine (dats m 0 c).arrAt_eq_of_covers 9 _ (by decide +kernel) fun t _ y => ?_
  blk_simp
  rw [after0_9]
  unfold yb
  refine congrArg (Y m c) ?_
  funext a
  match a with
  | ⟨0, _⟩ =>
    apply Fin.ext
    blk_simp
    rw [index9 t]
    show (y 0).val = 0 * 2048 + (y 0).val
    omega
  | ⟨1, _⟩ =>
    apply Fin.ext
    blk_simp
    rw [index9 t]
    show 512 * t.val + (y 1).val = t.val * 512 + (y 1).val
    omega

/-- The second result's array after the run. -/
theorem arr10 (c : Dev nD) : (dats m 0 c).arrAt 10 (cfgs 0).N = YD m c := by
  refine (dats m 0 c).arrAt_eq_of_covers 10 _ (by decide +kernel) fun t _ y => ?_
  blk_simp
  rw [after0_10]
  unfold ydb
  refine congrArg (YD m c) ?_
  funext a
  match a with
  | ⟨0, _⟩ =>
    apply Fin.ext
    blk_simp
    rw [index10 t]
    show (y 0).val = 0 * 2048 + (y 0).val
    omega
  | ⟨1, _⟩ =>
    apply Fin.ext
    blk_simp
    rw [index10 t]
    show 512 * t.val + (y 1).val = t.val * 512 + (y 1).val
    omega

/-- The kernel's run: its two results are the two arrays, its arguments as they were. -/
theorem run (ρ : Dev nD → PrngReg) (hT : TabOK m) : θ_run defs (onTc (τ := τ) (main (F := Ideal))) ⟨m, fun _ => 0, ρ⟩ (fun r => ∀ c : Dev nD,
      r.2.mem ((c.tc : Thread nD τ).loc main_v2_0) = Y m c
      ∧ r.2.mem ((c.tc : Thread nD τ).loc main_v2_1) = YD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r (h : Pipeline.FramePost cfgs (dats m) (0 : Fin 1) (V m) r) c =>
    ⟨((h c).1 9).trans (arr9 m c), ((h c).1 10).trans (arr10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c),
      ((h c).1 8).trans (((dats m 0 c).arrAt_in 8 rfl _).trans ((A_eq m c 8).trans (V_main_arg8 m c)))⟩) (run_main m ρ hT)

end Cert.KernelIdeal.Exact

end
-- ==== Proof.ReferenceIdeal.Value.lean ====
/- The reference's two results at an index, as the sums of `Cert.Spec`. -/
module

public import proofs.«01_k».proof.Proof.Gen.ReferenceIdeal.Value
public import proofs.«01_k».proof.Proof.Spec
public import proofs.«01_k».proof.Proof.Tab
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Hand

open Idealize.ShloMosaic Idealize.ShloMosaic.StableHlo Idealize.ShloMosaic.TcCoe Idealize.SL.Sem
open Cert.ReferenceIdeal Cert.ReferenceIdeal.Gen

variable (m : (ℓ : Loc nD τ sig) → Buf (Elt Ideal) ℓ)

/-- The unpacked two-bit codes. -/
theorem lo_at (c : Dev nD) (n : Fin 7) (i : Fin 222) (o : Fin 18944) :
    (upto (List.flatten [hostOps0, hostOps0_1, hostOps0_2]) (fun b => m (c, b)) 109 (Proc.devRef .tc main_v81) : IVec S7x222x18944 32) (ix3 n i o)
      = Spec.loC ((m ((c.tc : Thread nD τ).loc main_arg8) : IVec ⟨3, ![7, 222, 4736]⟩ 8) (ix3 n i ⟨o.val / 4, by omega⟩)) (o.val % 4) := by
  have e : upto (List.flatten [hostOps0, hostOps0_1, hostOps0_2]) (fun b => m (c, b)) 109 (Proc.devRef .tc main_v81) = after (List.flatten [hostOps0, hostOps0_1, hostOps0_2]) (fun b => m (c, b)) (Proc.devRef .tc main_v81) := by
    simp only [readAfter, readUpto]
  rw [e]
  after_reads_at
  by_cases h0 : o.val % 4 < 1
  · rw [dif_pos h0]
    after_reads_at
    exact Eq.trans (b := Spec.loC ((m ((c.tc : Thread nD τ).loc main_arg8) : IVec ⟨3, ![7, 222, 4736]⟩ 8) (ix3 n i ⟨o.val / 4, by omega⟩)) 0) rfl (congrArg (Spec.loC ((m ((c.tc : Thread nD τ).loc main_arg8) : IVec ⟨3, ![7, 222, 4736]⟩ 8) (ix3 n i ⟨o.val / 4, by omega⟩))) (show 0 = o.val % 4 by omega))
  rw [dif_neg h0]
  by_cases h1 : o.val % 4 - 1 < 1
  · rw [dif_pos h1]
    after_reads_at
    exact Eq.trans (b := Spec.loC ((m ((c.tc : Thread nD τ).loc main_arg8) : IVec ⟨3, ![7, 222, 4736]⟩ 8) (ix3 n i ⟨o.val / 4, by omega⟩)) 1) rfl (congrArg (Spec.loC ((m ((c.tc : Thread nD τ).loc main_arg8) : IVec ⟨3, ![7, 222, 4736]⟩ 8) (ix3 n i ⟨o.val / 4, by omega⟩))) (show 1 = o.val % 4 by omega))
  rw [dif_neg h1]
  by_cases h2 : o.val % 4 - 1 - 1 < 1
  · rw [dif_pos h2]
    after_reads_at
    exact Eq.trans (b := Spec.loC ((m ((c.tc : Thread nD τ).loc main_arg8) : IVec ⟨3, ![7, 222, 4736]⟩ 8) (ix3 n i ⟨o.val / 4, by omega⟩)) 2) rfl (congrArg (Spec.loC ((m ((c.tc : Thread nD τ).loc main_arg8) : IVec ⟨3, ![7, 222, 4736]⟩ 8) (ix3 n i ⟨o.val / 4, by omega⟩))) (show 2 = o.val % 4 by omega))
  rw [dif_neg h2]
  after_reads_at
  exact Eq.trans (b := Spec.loC ((m ((c.tc : Thread nD τ).loc main_arg8) : IVec ⟨3, ![7, 222, 4736]⟩ 8) (ix3 n i ⟨o.val / 4, by omega⟩)) 3) rfl (congrArg (Spec.loC ((m ((c.tc : Thread nD τ).loc main_arg8) : IVec ⟨3, ![7, 222, 4736]⟩ 8) (ix3 n i ⟨o.val / 4, by omega⟩))) (show 3 = o.val % 4 by omega))

/-- The bytes. -/
theorem hi_at (c : Dev nD) (n : Fin 7) (i : Fin 2) (o : Fin 18944) :
    (upto (List.flatten [hostOps0, hostOps0_1, hostOps0_2]) (fun b => m (c, b)) 109 (Proc.devRef .tc main_v82) : IVec S7x2x18944 32) (ix3 n i o)
      = ((m ((c.tc : Thread nD τ).loc main_arg6) : IVec ⟨3, ![7, 2, 18944]⟩ 8) (ix3 n i o)).setWidth 32 := by
  have e : upto (List.flatten [hostOps0, hostOps0_1, hostOps0_2]) (fun b => m (c, b)) 109 (Proc.devRef .tc main_v82) = after (List.flatten [hostOps0, hostOps0_1, hostOps0_2]) (fun b => m (c, b)) (Proc.devRef .tc main_v82) := by
    simp only [readAfter, readUpto]
  rw [e]
  after_reads_at

/-- The unpacked three-bit codes. -/
theorem mid_at (c : Dev nD) (n : Fin 7) (i : Fin 32) (o : Fin 18944) :
    (upto (List.flatten [hostOps0, hostOps0_1, hostOps0_2]) (fun b => m (c, b)) 109 (Proc.devRef .tc main_v58) : IVec S7x32x18944 32) (ix3 n i o)
      = Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1))
          ((m ((c.tc : Thread nD τ).loc main_arg7) : IVec ⟨4, ![7, 32, 2368, 3]⟩ 8) (ix4 n i ⟨o.val / 8, by omega⟩ 2)) (o.val % 8) := by
  have e : upto (List.flatten [hostOps0, hostOps0_1, hostOps0_2]) (fun b => m (c, b)) 109 (Proc.devRef .tc main_v58) = after (List.flatten [hostOps0, hostOps0_1, hostOps0_2]) (fun b => m (c, b)) (Proc.devRef .tc main_v58) := by
    simp only [readAfter, readUpto]
  rw [e]
  after_reads_at
  by_cases h0 : o.val % 8 < 1
  · rw [dif_pos h0]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 0) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 0 = o.val % 8 by omega))
  rw [dif_neg h0]
  by_cases h1 : o.val % 8 - 1 < 1
  · rw [dif_pos h1]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 1) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 1 = o.val % 8 by omega))
  rw [dif_neg h1]
  by_cases h2 : o.val % 8 - 1 - 1 < 1
  · rw [dif_pos h2]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 2) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 2 = o.val % 8 by omega))
  rw [dif_neg h2]
  by_cases h3 : o.val % 8 - 1 - 1 - 1 < 1
  · rw [dif_pos h3]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 3) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 3 = o.val % 8 by omega))
  rw [dif_neg h3]
  by_cases h4 : o.val % 8 - 1 - 1 - 1 - 1 < 1
  · rw [dif_pos h4]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 4) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 4 = o.val % 8 by omega))
  rw [dif_neg h4]
  by_cases h5 : o.val % 8 - 1 - 1 - 1 - 1 - 1 < 1
  · rw [dif_pos h5]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 5) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 5 = o.val % 8 by omega))
  rw [dif_neg h5]
  by_cases h6 : o.val % 8 - 1 - 1 - 1 - 1 - 1 - 1 < 1
  · rw [dif_pos h6]
    after_reads_at
    exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 6) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 6 = o.val % 8 by omega))
  rw [dif_neg h6]
  after_reads_at
  exact Eq.trans (b := Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2)) 7) rfl (congrArg (Spec.midC ((m ((c.tc : Thread nD τ).loc main_arg7) : IVec ⟨4, ![7, 32, 2368, 3]⟩ 8) (ix4 n i ⟨o.val / 8, by omega⟩ 0)) ((m ((c.tc : Thread nD τ).loc main_arg7) : IVec ⟨4, ![7, 32, 2368, 3]⟩ 8) (ix4 n i ⟨o.val / 8, by omega⟩ 1)) ((m ((c.tc : Thread nD τ).loc main_arg7) : IVec ⟨4, ![7, 32, 2368, 3]⟩ 8) (ix4 n i ⟨o.val / 8, by omega⟩ 2))) (show 7 = o.val % 8 by omega))

/-- The decoded factor of the arguments. -/
abbrev UM (c : Dev nD) : Fin 7 → Fin 256 → Fin 18944 → EReal :=
  Spec.U (m ((c.tc : Thread nD τ).loc main_arg5) : IVec ⟨4, ![7, 2, 148, 128]⟩ 32) (m ((c.tc : Thread nD τ).loc main_arg6) : IVec ⟨3, ![7, 2, 18944]⟩ 8) (m ((c.tc : Thread nD τ).loc main_arg7) : IVec ⟨4, ![7, 32, 2368, 3]⟩ 8) (m ((c.tc : Thread nD τ).loc main_arg8) : IVec ⟨3, ![7, 222, 4736]⟩ 8)

/-- The decoded factor's entry. -/
theorem dec_at (c : Dev nD) (n : Fin 7) (i : Fin 256) (o : Fin 18944) :
    (FloatOps.sitofp (F := Ideal) FTy.bf16
        (IntOp.subi
          (if h : i.val < 222 then (upto (List.flatten [hostOps0, hostOps0_1, hostOps0_2]) (fun b => m (c, b)) 109 (Proc.devRef .tc main_v81) : IVec S7x222x18944 32) (ix3 n ⟨i.val, h⟩ o)
          else if h' : i.val - 222 < 2 then (upto (List.flatten [hostOps0, hostOps0_1, hostOps0_2]) (fun b => m (c, b)) 109 (Proc.devRef .tc main_v82) : IVec S7x2x18944 32) (ix3 n ⟨i.val - 222, h'⟩ o)
          else (upto (List.flatten [hostOps0, hostOps0_1, hostOps0_2]) (fun b => m (c, b)) 109 (Proc.devRef .tc main_v58) : IVec S7x32x18944 32) (ix3 n ⟨i.val - 222 - 2, by omega⟩ o))
          (IntOp.andi ((m ((c.tc : Thread nD τ).loc main_arg5) : IVec ⟨4, ![7, 2, 148, 128]⟩ 32) (ix4 n ⟨i.val / 128, by omega⟩ ⟨o.val / 128, by omega⟩ ⟨i.val % 128, by omega⟩)) 255#32)) : EReal) *
      (Ideal.ofBits FTy.f32
        (IntOp.andi ((m ((c.tc : Thread nD τ).loc main_arg5) : IVec ⟨4, ![7, 2, 148, 128]⟩ 32) (ix4 n ⟨i.val / 128, by omega⟩ ⟨o.val / 128, by omega⟩ ⟨i.val % 128, by omega⟩)) 4294901760#32) : EReal)
      = UM m c n i o := by
  have e : (if h : i.val < 222 then (upto (List.flatten [hostOps0, hostOps0_1, hostOps0_2]) (fun b => m (c, b)) 109 (Proc.devRef .tc main_v81) : IVec S7x222x18944 32) (ix3 n ⟨i.val, h⟩ o)
          else if h' : i.val - 222 < 2 then (upto (List.flatten [hostOps0, hostOps0_1, hostOps0_2]) (fun b => m (c, b)) 109 (Proc.devRef .tc main_v82) : IVec S7x2x18944 32) (ix3 n ⟨i.val - 222, h'⟩ o)
          else (upto (List.flatten [hostOps0, hostOps0_1, hostOps0_2]) (fun b => m (c, b)) 109 (Proc.devRef .tc main_v58) : IVec S7x32x18944 32) (ix3 n ⟨i.val - 222 - 2, by omega⟩ o))
        = Spec.code (m ((c.tc : Thread nD τ).loc main_arg6) : IVec ⟨3, ![7, 2, 18944]⟩ 8) (m ((c.tc : Thread nD τ).loc main_arg7) : IVec ⟨4, ![7, 32, 2368, 3]⟩ 8) (m ((c.tc : Thread nD τ).loc main_arg8) : IVec ⟨3, ![7, 222, 4736]⟩ 8) n i o := by
    unfold Spec.code
    by_cases h : i.val < 222
    · rw [dif_pos h, dif_pos h]; exact lo_at m c n ⟨i.val, h⟩ o
    rw [dif_neg h, dif_neg h]
    by_cases h' : i.val - 222 < 2
    · rw [dif_pos h', dif_pos h']; exact hi_at m c n ⟨i.val - 222, h'⟩ o
    rw [dif_neg h', dif_neg h']
    exact mid_at m c n ⟨i.val - 222 - 2, by omega⟩ o
  rw [e, Spec.sub_conv _ _ (Spec.code_lt _ _ _ n i o) (Spec.and255_lt _)]
  rfl

/-- A tenant's word is neither wrapped nor out of bounds. -/
theorem take_word (w : BitVec 32) (h : w.toNat < 7) :
    Scalar.select (IntOp.cmpi .slt w 0#32) (IntOp.addi w 7#32) w = w
      ∧ IntOp.andi (IntOp.cmpi .sge w 0#32) (IntOp.cmpi .sle w 6#32) = 1#1 := by
  obtain ⟨t, ht, rfl⟩ : ∃ t : ℕ, t < 7 ∧ w = BitVec.ofNat 32 t := ⟨w.toNat, h, by simp⟩
  interval_cases t <;> decide

/-- The gather of the slots' factors reads the factor the slot's word names. -/
theorem gather_at {α : Type} (X : S7x256x18944.Idx → α) (idx : IVec S22x1 32) (s : Fin 22) (k : Fin 256) (o : Fin 18944)
    (t : Fin 7) (ht : (idx (ix2 s 0)).toNat = t.val) :
    Host.gather gather_S7x256x18944_S22x1_S22x256x18944_12_0_n_n_0_1_125618944 X idx (ix3 s k o) = X (ix3 t k o) := by
  unfold Host.gather
  refine congrArg X (funext fun a => Fin.ext ?_)
  match a with
  | ⟨0, _⟩ =>
    show gather_S7x256x18944_S22x1_S22x256x18944_12_0_n_n_0_1_125618944.start (ix3 s k o) idx 0 + gather_S7x256x18944_S22x1_S22x256x18944_12_0_n_n_0_1_125618944.batchCoord (ix3 s k o) 0 + gather_S7x256x18944_S22x1_S22x256x18944_12_0_n_n_0_1_125618944.offCoord (ix3 s k o) 0 = t.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S7x256x18944_S22x1_S22x256x18944_12_0_n_n_0_1_125618944.startIndexMap from List.mem_singleton.mpr rfl)]
    have hsi : gather_S7x256x18944_S22x1_S22x256x18944_12_0_n_n_0_1_125618944.siIdx (ix3 s k o) ⟨List.idxOf (0 : Fin 3) gather_S7x256x18944_S22x1_S22x256x18944_12_0_n_n_0_1_125618944.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    have h7 : (idx (ix2 s 0)).toNat < 7 := ht ▸ t.isLt
    have hz : (idx (ix2 s 0)).toInt = (idx (ix2 s 0)).toNat := BitVec.toInt_eq_toNat_of_lt (by omega)
    show min (idx (ix2 s 0)).toInt.toNat (7 - 1) = t.val
    rw [hz, Int.toNat_natCast, ht]
    omega
  | ⟨1, _⟩ =>
    show gather_S7x256x18944_S22x1_S22x256x18944_12_0_n_n_0_1_125618944.start (ix3 s k o) idx 1 + gather_S7x256x18944_S22x1_S22x256x18944_12_0_n_n_0_1_125618944.batchCoord (ix3 s k o) 1 + gather_S7x256x18944_S22x1_S22x256x18944_12_0_n_n_0_1_125618944.offCoord (ix3 s k o) 1 = k.val
    rw [GatherDims.batchCoord_eq_zero _ _ _ List.not_mem_nil]
    unfold GatherDims.start
    rw [dif_neg (show (1 : Fin 3) ∉ gather_S7x256x18944_S22x1_S22x256x18944_12_0_n_n_0_1_125618944.startIndexMap from fun h => absurd (List.mem_singleton.mp h) (by decide))]
    exact (congrArg (· + _) (Nat.zero_add 0)).trans (Nat.zero_add _)
  | ⟨2, _⟩ =>
    show gather_S7x256x18944_S22x1_S22x256x18944_12_0_n_n_0_1_125618944.start (ix3 s k o) idx 2 + gather_S7x256x18944_S22x1_S22x256x18944_12_0_n_n_0_1_125618944.batchCoord (ix3 s k o) 2 + gather_S7x256x18944_S22x1_S22x256x18944_12_0_n_n_0_1_125618944.offCoord (ix3 s k o) 2 = o.val
    rw [GatherDims.batchCoord_eq_zero _ _ _ List.not_mem_nil]
    unfold GatherDims.start
    rw [dif_neg (show (2 : Fin 3) ∉ gather_S7x256x18944_S22x1_S22x256x18944_12_0_n_n_0_1_125618944.startIndexMap from fun h => absurd (List.mem_singleton.mp h) (by decide))]
    exact (congrArg (· + _) (Nat.zero_add 0)).trans (Nat.zero_add _)

/-- A block's test as a number is one on the block and zero off it. -/
theorem hit_mul (w : BitVec 32) (b : ℕ) (hb : b < 16) (y : EReal) :
    (FloatOps.uitofp (F := Ideal) FTy.f32 (IntOp.cmpi .eq w (BitVec.ofNat 32 b)) : EReal) * y = if w.toNat = b then y else 0 := by
  have hn : (BitVec.ofNat 32 b).toNat = b := by rw [BitVec.toNat_ofNat]; omega
  have hc : IntOp.cmpi .eq w (BitVec.ofNat 32 b) = BitVec.ofBool (w == BitVec.ofNat 32 b) := rfl
  by_cases h : w.toNat = b
  · have : w = BitVec.ofNat 32 b := BitVec.eq_of_toNat_eq (h.trans hn.symm)
    rw [if_pos h, hc, this, beq_self_eq_true]
    show (((1 : ℕ) : ℝ) : EReal) * y = y
    simp
  · have : (w == BitVec.ofNat 32 b) = false := beq_eq_false_iff_ne.mpr fun e => h (by rw [e, hn])
    rw [if_neg h, hc, this]
    show (((0 : ℕ) : ℝ) : EReal) * y = 0
    simp

end Cert.ReferenceIdeal.Hand

end
-- ==== Proof.ReferenceIdeal.Second.lean ====
/- The reference's two results at an index, as the sums of `Cert.Spec`. -/
module

public import proofs.«01_k».proof.Proof.ReferenceIdeal.Value
public import proofs.«01_k».proof.Proof.Spec
public import proofs.«01_k».proof.Proof.Tab
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Hand

open Idealize.ShloMosaic Idealize.ShloMosaic.StableHlo Idealize.ShloMosaic.TcCoe Idealize.SL.Sem
open Cert.ReferenceIdeal Cert.ReferenceIdeal.Gen

variable (m : (ℓ : Loc nD τ sig) → Buf (Elt Ideal) ℓ)

/-- The taken factor: a tenant's word in range reads its tenant's factor. -/
theorem taken (X : S7x256x18944.Idx → EReal) (idx : IVec S22x1 32) (w : BitVec 32) (h : w.toNat < 7) (s : Fin 22) (k : Fin 256)
    (o : Fin 18944) (q : EReal)
    (hidx : idx (ix2 s 0) = Scalar.select (IntOp.cmpi .slt w 0#32) (IntOp.addi w 7#32) w) :
    Scalar.select
        (Finset.fold IntOp.andi (1#1)
          (fun _ : Fin 1 =>
            IntOp.andi
              (IntOp.cmpi .sge (Scalar.select (IntOp.cmpi .slt w 0#32) (IntOp.addi w 7#32) w) 0#32)
              (IntOp.cmpi .sle (Scalar.select (IntOp.cmpi .slt w 0#32) (IntOp.addi w 7#32) w) 6#32))
          Finset.univ)
        (Host.gather gather_S7x256x18944_S22x1_S22x256x18944_12_0_n_n_0_1_125618944 X idx (ix3 s k o)) q
      = X (ix3 ⟨w.toNat % 7, by omega⟩ k o) := by
  obtain ⟨hw, hk⟩ := take_word w h
  rw [hw] at hidx ⊢
  rw [show (Finset.univ : Finset (Fin 1)) = {0} from rfl, Finset.fold_singleton, hk]
  rw [show IntOp.andi (1#1) (1#1) = 1#1 from rfl, ValueIdx.select_one]
  exact gather_at X idx s k o ⟨w.toNat % 7, by omega⟩ (by rw [hidx]; exact (Nat.mod_eq_of_lt h).symm)

/-- The reference's second result. -/
theorem yd_at (c : Dev nD) (hT : Tab.OK (m ((c.tc : Thread nD τ).loc main_arg0) : IVec ⟨2, ![5, 22]⟩ 32)) (r : Fin 2048) (o : Fin 18944) :
    (V m c main_v111 : FVec Ideal S2048x18944 .f32) (ix2 r o) = Spec.GD (m ((c.tc : Thread nD τ).loc main_arg0) : IVec ⟨2, ![5, 22]⟩ 32) (m ((c.tc : Thread nD τ).loc main_arg4) : FVec Ideal ⟨3, ![22, 128, 256]⟩ .bf16) (UM m c) r o := by
  unfold V
  after_reads_at
  unfold Spec.GD
  refine Finset.sum_congr rfl fun s _ => ?_
  refine (hit_mul _ _ (by omega) _).trans (if_congr Iff.rfl (Finset.sum_congr rfl fun k _ => ?_) rfl)
  refine congrArg (HMul.hMul (α := EReal) (β := EReal) _) ?_
  refine (taken _ _ (m (c, Proc.devRef .tc main_arg0) (ix2 1 s)) (hT.tenant s) s k o _ ?_).trans ?_
  · rfl
  · refine Eq.trans ?_ (dec_at m c _ k o)
    pointwise

end Cert.ReferenceIdeal.Hand

end
-- ==== Proof.ReferenceIdeal.First.lean ====
/- The reference's run, its two results the arrays of `Cert.Spec`. -/
module

public import proofs.«01_k».proof.Proof.ReferenceIdeal.Second
public import proofs.«01_k».proof.Proof.Spec
public import proofs.«01_k».proof.Proof.Tab
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Hand

open Idealize.ShloMosaic Idealize.ShloMosaic.StableHlo Idealize.ShloMosaic.TcCoe Idealize.SL.Sem
open Cert.ReferenceIdeal Cert.ReferenceIdeal.Gen

variable (m : (ℓ : Loc nD τ sig) → Buf (Elt Ideal) ℓ)

/-- The second result's array, as the kernel call finds it. -/
theorem yd_eq (c : Dev nD) (hT : Tab.OK (m ((c.tc : Thread nD τ).loc main_arg0))) :
    V m c main_v111 = Spec.YD (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  funext i
  obtain ⟨r, o, rfl⟩ : ∃ (r : Fin 2048) (o : Fin 18944), i = ix2 r o := ⟨i 0, i 1, by funext a; match a with | ⟨0, _⟩ => rfl | ⟨1, _⟩ => rfl⟩
  exact yd_at m c hT r o

/-- The scale's array, as the kernel call finds it. -/
theorem scale_at (c : Dev nD) (i : S1x18944.Idx) (o : Fin 18944) (h : (i 1).val = o.val) :
    (V m c main_v112 : FVec Ideal S1x18944 .f32) i = (m ((c.tc : Thread nD τ).loc main_arg3) : FVec Ideal S18944 .f32) (ix1 o) := by
  obtain rfl : i = ix2 0 o := funext fun a => match a with | ⟨0, _⟩ => Fin.ext (by have h0 : (i 0).val < 1 := (i 0).isLt; show (i 0).val = 0; omega) | ⟨1, _⟩ => Fin.ext h
  unfold V
  after_reads_at

/-- Window 0's one block is its whole array. -/
theorem idx0 : ∀ t : Fin cfg0.N, win0_0.index t = ![0, 0] :=
  (by decide +kernel : ∀ t : Fin grid0.N, win0_0.index t = ![0, 0])
/-- Window 1's one block is its whole array. -/
theorem idx1 : ∀ t : Fin cfg0.N, win0_1.index t = ![0, 0] :=
  (by decide +kernel : ∀ t : Fin grid0.N, win0_1.index t = ![0, 0])
/-- Window 2's one block is its whole array. -/
theorem idx2 : ∀ t : Fin cfg0.N, win0_2.index t = ![0, 0] :=
  (by decide +kernel : ∀ t : Fin grid0.N, win0_2.index t = ![0, 0])
/-- Window 3's one block is its whole array. -/
theorem idx3 : ∀ t : Fin cfg0.N, win0_3.index t = ![0, 0] :=
  (by decide +kernel : ∀ t : Fin grid0.N, win0_3.index t = ![0, 0])

/-- The first result's array. -/
theorem y_eq (c : Dev nD) (hT : Tab.OK (m ((c.tc : Thread nD τ).loc main_arg0))) :
    (dats m 0 c).arrAt 4 cfg0.N = Spec.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_after_last 4 t0_0 (by decide +kernel) _ fun j => ?_
  blk_simp
  rw [after0_4]
  frame_out
  blk_point [k0_pay1, iblk, idx0 t0_0, idx1 t0_0, idx2 t0_0, idx3 t0_0]
  · refine scale_at m c _ (j 1) ?_
    blk_simp
    rw [idx2 t0_0]
    simp only [Matrix.cons_val_zero, Matrix.cons_val_one, Nat.zero_mul, Nat.zero_add]
  · rw [yd_eq m c hT]
    refine congrArg _ ?_
    unfold Spec.YD
    refine congrArg₂ (Spec.GD _ _ _) (Fin.ext ?_) (Fin.ext ?_)
    all_goals blk_simp
    all_goals rw [idx3 t0_0]
    · simp only [Matrix.cons_val_zero, Matrix.cons_val_one, Nat.zero_mul, Nat.zero_add]
    · simp only [Matrix.cons_val_zero, Matrix.cons_val_one, Nat.zero_mul, Nat.zero_add]

/-- The reference's run: its two results are the two arrays, its arguments as they were. -/
theorem run (ρ : Dev nD → PrngReg) (hT : ∀ c : Dev nD, Tab.OK (m ((c.tc : Thread nD τ).loc main_arg0))) :
    θ_run defs (onTc (τ := τ) (main (F := Ideal))) ⟨m, fun _ => 0, ρ⟩ fun r => ∀ c : Dev nD,
      r.2.mem ((c.tc : Thread nD τ).loc main_v113) = Spec.Y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v111) = Spec.YD (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(Value.post4 m r h c).trans (y_eq m c (hT c)),
      (((h c).1 3).trans (((dats m 0 c).arrAt_in 3 rfl _).trans (A_eq m c 3))).trans (yd_eq m c (hT c)),
      Value.kept_main_arg0 m r h c,
      Value.kept_main_arg1 m r h c,
      Value.kept_main_arg2 m r h c,
      Value.kept_main_arg3 m r h c,
      Value.kept_main_arg4 m r h c,
      Value.kept_main_arg5 m r h c,
      Value.kept_main_arg6 m r h c,
      Value.kept_main_arg7 m r h c,
      Value.kept_main_arg8 m r h c⟩)
    (run_main m ρ)

end Cert.ReferenceIdeal.Hand

end
-- ==== Proof.lean ====
module

public import proofs.«01_k».proof.Proof.Kernel.Frame
public import proofs.«01_k».proof.Proof.KernelIdeal.Frame
public import proofs.«01_k».proof.Proof.KernelIdeal.Exact
public import proofs.«01_k».proof.Proof.ReferenceIdeal.First
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_tab_ok
public import Idealize.ShloMosaic.Adequacy
public import Idealize.ShloMosaic.Init

@[expose] public section

noncomputable section

namespace Cert.Proof

open Idealize.ShloMosaic Idealize.SL.Sem Cert.Kernel

/-- The table's precondition on the kernel's memory. -/
theorem tabOK_Kernel (m) (h : Cert.Pre_Kernel m) : Cert.Kernel.Hand.TabOK (F := Bits) m := fun c =>
  Cert.Tab.ok_of (F := Bits) _ _ _ _ _ _ _ _ _ (h c)

/-- The table's precondition on the idealized kernel's memory. -/
theorem tabOK_KernelIdeal (m) (h : Cert.Pre_KernelIdeal m) : Cert.KernelIdeal.Hand.TabOK (F := Ideal) m := fun c =>
  Cert.Tab.ok_of (F := Ideal) _ _ _ _ _ _ _ _ _ (h c)

/-- The idealized kernel's two results are the idealized reference's. -/
theorem algebraic : Cert.algebraic_KernelIdeal_ReferenceIdeal (hKernelIdeal := Cert.KernelIdeal.Gen.facts)
    (hReferenceIdeal := Cert.ReferenceIdeal.Gen.facts) (hPre_tab_ok := Cert.Pre_tab_ok.Gen.facts) := by
  intro m g m' g' hpre hagree
  have hT := tabOK_KernelIdeal m hpre
  have h := Cert.ReferenceIdeal.Hand.run m' g' fun c => by rw [(hagree c).1]; exact hT c
  refine ⟨Cert.KernelIdeal.Exact.Y m, Cert.KernelIdeal.Exact.YD m, Cert.KernelIdeal.Exact.run m g hT, ?_⟩
  refine (θ_run _ _ _).mono (fun r hr c => ?_) h
  obtain ⟨h0, h1, h2, h3, h4, h5, h6, h7, h8⟩ := hagree c
  obtain ⟨hy, hyd, hargs⟩ := hr c
  refine ⟨hy.trans ?_, hyd.trans ?_, hargs⟩
  · rw [h0, h1, h2, h3, h4, h5, h6, h7, h8]
  · rw [h0, h4, h5, h6, h7, h8]

/-- The certificate's claim. -/
theorem claim : Cert.Claim := ⟨Cert.Kernel.Gen.facts, Cert.KernelIdeal.Gen.facts, Cert.ReferenceIdeal.Gen.facts, Cert.Pre_tab_ok.Gen.facts,
  fun m g h => Cert.Kernel.Hand.frame m g (tabOK_Kernel m h),
  fun m g h => Cert.KernelIdeal.Hand.frame m g (tabOK_KernelIdeal m h),
  fun m g _ => Cert.ReferenceIdeal.Gen.frame m g, trivial, algebraic⟩

end Cert.Proof

end
